-- ==== Defs.lean ====
def Pre_Kernel [hPre_types_in_range : Cert.Pre_types_in_range.Facts] (m : (ℓ : Loc Cert.Kernel.nD Cert.Kernel.τ Cert.Kernel.sig) → Buf (Elt Bits) ℓ) : Prop :=
  ∀ c : Dev Cert.Kernel.nD,
    (Cert.Pre_types_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_types_in_range : Cert.Pre_types_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_range [hPre_types_in_range : Cert.Pre_types_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_types_in_range : Cert.Pre_types_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_types_in_range [hReferenceIdeal : Cert.ReferenceIdeal.Facts] [hPre_types_in_range : Cert.Pre_types_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)) (v4 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_v12) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_types_in_range : Cert.Pre_types_in_range.Facts),
    quiescent_Kernel (hKernel := hKernel) (hPre_types_in_range := hPre_types_in_range)
    ∧ quiescent_KernelIdeal (hKernelIdeal := hKernelIdeal) (hPre_types_in_range := hPre_types_in_range)
    ∧ quiescent_ReferenceIdeal (hReferenceIdeal := hReferenceIdeal)
    ∧ quiescent_ReferenceIdeal_pre_types_in_range (hReferenceIdeal := hReferenceIdeal) (hPre_types_in_range := hPre_types_in_range)
    ∧ preserves_Kernel_KernelIdeal
    ∧ algebraic_KernelIdeal_ReferenceIdeal (hKernelIdeal := hKernelIdeal) (hReferenceIdeal := hReferenceIdeal) (hPre_types_in_range := hPre_types_in_range)
-- ==== Pre_types_in_range.lean ====
abbrev S8x16384x3 : Shape := ⟨3, ![8, 16384, 3]⟩
abbrev S8x16384 : Shape := ⟨2, ![8, 16384]⟩
abbrev S8x32768x3 : Shape := ⟨3, ![8, 32768, 3]⟩
abbrev S8 : Shape := ⟨1, ![8]⟩
abbrev S_ : Shape := ⟨0, ![]⟩

class Facts : Prop where
  bcast_S_S8x16384 : S_.BroadcastsInDim S8x16384 (![] : Fin 0 → Fin S8x16384.rank)
  reducesTo_S8x16384_S_d0_1 : S8x16384.ReducesTo [0, 1] S_
  h_S_ : 0 < S_.numel

variable [Facts]

def fn {F : FTy → Type} [FloatOps F] (main_arg0 : FVec F S8x16384x3 .f32) (main_arg1 : IVec S8x16384 32) (main_arg2 : FVec F S8x16384x3 .f32) (main_arg3 : FVec F S8x32768x3 .f32) (main_arg4 : FVec F S8 .f32) : IVec S_ 1 :=
  let main_c : IVec S_ 32 := constantI S_ 32 0#32
  let main_v0 : IVec S8x16384 32 := broadcastInDim S8x16384 ![] bcast_S_S8x16384 main_c
  let main_v1 : IVec S8x16384 1 := cmpi .sge main_arg1 main_v0
  let main_c_0 : IVec S_ 32 := constantI S_ 32 8#32
  let main_v2 : IVec S8x16384 32 := broadcastInDim S8x16384 ![] bcast_S_S8x16384 main_c_0
  let main_v3 : IVec S8x16384 1 := cmpi .slt main_arg1 main_v2
  let main_v4 : IVec S8x16384 1 := andi main_v1 main_v3
  let main_c_1 : IVec S_ 1 := constantI S_ 1 1#1
  let main_v5 : IVec S_ 1 := (fun x v => Host.reduce IntOp.andi x v reducesTo_S8x16384_S_d0_1 h_S_) main_v4 main_c_1
  main_v5
-- ==== Kernel.lean ====
abbrev S8x16384x3 : Shape := ⟨3, ![8, 16384, 3]⟩
abbrev S8x16384 : Shape := ⟨2, ![8, 16384]⟩
abbrev S8x32768x3 : Shape := ⟨3, ![8, 32768, 3]⟩
abbrev S8 : Shape := ⟨1, ![8]⟩
abbrev S3x8x16384 : Shape := ⟨3, ![3, 8, 16384]⟩
abbrev S3x8x32768 : Shape := ⟨3, ![3, 8, 32768]⟩
abbrev S8x32768 : Shape := ⟨2, ![8, 32768]⟩
abbrev S3x8x512 : Shape := ⟨3, ![3, 8, 512]⟩
abbrev S8x512 : Shape := ⟨2, ![8, 512]⟩
abbrev S_ : Shape := ⟨0, ![]⟩
abbrev S8x256 : Shape := ⟨2, ![8, 256]⟩
abbrev S3x8x256 : Shape := ⟨3, ![3, 8, 256]⟩
abbrev S16 : Shape := ⟨1, ![16]⟩
abbrev S1x16 : Shape := ⟨2, ![1, 16]⟩
abbrev S1x1x16 : Shape := ⟨3, ![1, 1, 16]⟩
abbrev S8x16384x1 : Shape := ⟨3, ![8, 16384, 1]⟩

abbrev nBuf : Table → Nat
  | .hbm => 20
  | .local .scVector .vmem => 8
  | _ => 0

abbrev bufTy : (tb : Table) → Fin (nBuf tb) → BufTy
  | .hbm, ⟨0, _⟩ => ⟨S8x16384x3, .f32⟩
  | .hbm, ⟨1, _⟩ => ⟨S8x16384, .i32⟩
  | .hbm, ⟨2, _⟩ => ⟨S8x16384x3, .f32⟩
  | .hbm, ⟨3, _⟩ => ⟨S8x32768x3, .f32⟩
  | .hbm, ⟨4, _⟩ => ⟨S8, .f32⟩
  | .hbm, ⟨5, _⟩ => ⟨S3x8x16384, .f32⟩
  | .hbm, ⟨6, _⟩ => ⟨S3x8x16384, .f32⟩
  | .hbm, ⟨7, _⟩ => ⟨S3x8x32768, .f32⟩
  | .hbm, ⟨8, _⟩ => ⟨S3x8x32768, .f32⟩
  | .hbm, ⟨9, _⟩ => ⟨S8x32768, .i32⟩
  | .hbm, ⟨10, _⟩ => ⟨S3x8x16384, .f32⟩
  | .hbm, ⟨11, _⟩ => ⟨S8x16384, .i32⟩
  | .hbm, ⟨12, _⟩ => ⟨S8x32768x3, .f32⟩
  | .hbm, ⟨13, _⟩ => ⟨S8x16384x3, .f32⟩
  | .hbm, ⟨14, _⟩ => ⟨S8x16384x3, .f32⟩
  | .hbm, ⟨15, _⟩ => ⟨S8x16384x1, .i32⟩
  | .hbm, ⟨16, _⟩ => ⟨S_, .i32⟩
  | .hbm, ⟨17, _⟩ => ⟨S8x16384x1, .i32⟩
  | .hbm, ⟨18, _⟩ => ⟨S8x16384x1, .i1⟩
  | .hbm, ⟨19, _⟩ => ⟨S8x16384x1, .i1⟩
  | .local .scVector .vmem, ⟨0, _⟩ => ⟨S3x8x512, .f32⟩
  | .local .scVector .vmem, ⟨1, _⟩ => ⟨S3x8x512, .f32⟩
  | .local .scVector .vmem, ⟨2, _⟩ => ⟨S8x512, .i32⟩
  | .local .scVector .vmem, ⟨3, _⟩ => ⟨S3x8x512, .f32⟩
  | .local .scVector .vmem, ⟨4, _⟩ => ⟨S8, .f32⟩
  | .local .scVector .vmem, ⟨5, _⟩ => ⟨S8x512, .f32⟩
  | .local .scVector .vmem, ⟨6, _⟩ => ⟨S8x512, .i32⟩
  | .local .scVector .vmem, ⟨7, _⟩ => ⟨S8x512, .i32⟩
  | _, _ => ⟨S8x16384x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v0_scv : Ref sig .scVector := ⟨.hbm, 5, rfl⟩
abbrev main_v1_scv : Ref sig .scVector := ⟨.hbm, 6, rfl⟩
abbrev main_arg1_scv : Ref sig .scVector := ⟨.hbm, 1, rfl⟩
abbrev main_v2_scv : Ref sig .scVector := ⟨.hbm, 7, rfl⟩
abbrev main_arg4_scv : Ref sig .scVector := ⟨.hbm, 4, rfl⟩
abbrev main_v3_0_scv : Ref sig .scVector := ⟨.hbm, 8, rfl⟩
abbrev main_v3_1_scv : Ref sig .scVector := ⟨.hbm, 9, rfl⟩
abbrev main_v3_2_scv : Ref sig .scVector := ⟨.hbm, 10, rfl⟩
abbrev main_v3_3_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c0_i32_2 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v3 : BitVec 32 := Scalar.addi v2 c0_i32
  ![0, v3.toNat]
def k0_off2 (i : grid0.Coords) (c0_i32_12 : BitVec 32) : Fin 3 → Nat :=
  let c0_i32_16 : BitVec 32 := 0#32
  let c0_i32_17 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v13 : BitVec 32 := Scalar.addi v2 c0_i32_12
  ![0, 0, v13.toNat]
def k0_off3 (i : grid0.Coords) (c0_i32_34 : BitVec 32) : Fin 3 → Nat :=
  let c0_i32_38 : BitVec 32 := 0#32
  let c0_i32_39 : BitVec 32 := 0#32
  let c16384_i32 : BitVec 32 := 16384#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v23 : BitVec 32 := Scalar.addi c16384_i32 v2
  let v24 : BitVec 32 := Scalar.addi v23 c0_i32_34
  ![0, 0, v24.toNat]
@[reducible] def k0_t1_loop : Scf.Loop 32 :=
  let c0_i32_86 : BitVec 32 := 0#32
  let c128_i32 : BitVec 32 := 128#32
  let v49 : BitVec 32 := Scalar.addi c0_i32_86 c128_i32
  let c1_i32 : BitVec 32 := 1#32
  ⟨c0_i32_86, v49, c1_i32⟩
def k0_off4 (k0_t1 : Fin k0_t1_loop.trips) : Fin 2 → Nat :=
  let c0_i32_86 : BitVec 32 := 0#32
  let c1_i32 : BitVec 32 := 1#32
  let arg28 : BitVec 32 := Scf.iv c0_i32_86 c1_i32 k0_t1
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v222 : Index := Scalar.indexCast v209
  let c0_i32_391 : BitVec 32 := 0#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c0_i32_391 v220
  let v223 : Index := Scalar.indexCast v221
  ![v222.toNat, v223.toNat]

def k0_chk1 (v224 : IVec S16 32) : Prop :=
  (∀ a x, ((![v224] : Fin 1 → IVec S16 32) a x).toNat < S8.size a)
theorem k0_idx1_inb : ∀ (v224 : IVec S16 32) (k0_hw1 : k0_chk1 v224), ∀ a x, ((![v224] : Fin 1 → IVec S16 32) a x).toNat < S8.size a := fun v224 k0_hw1 => k0_hw1
def k0_off5 (k0_t1 : Fin k0_t1_loop.trips) : Fin 2 → Nat :=
  let c0_i32_86 : BitVec 32 := 0#32
  let c1_i32 : BitVec 32 := 1#32
  let arg28 : BitVec 32 := Scf.iv c0_i32_86 c1_i32 k0_t1
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v226 : Index := Scalar.indexCast v209
  let c0_i32_391 : BitVec 32 := 0#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c0_i32_391 v220
  let v227 : Index := Scalar.indexCast v221
  ![v226.toNat, v227.toNat]
def k0_off6 (i : grid0.Coords) (c0_i32_88 : BitVec 32) : Fin 2 → Nat :=
  let c0_i32_91 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v50 : BitVec 32 := Scalar.addi v2 c0_i32_88
  ![0, v50.toNat]
def k0_off7 (i : grid0.Coords) (c0_i32_96 : BitVec 32) : Fin 2 → Nat :=
  let c0_i32_99 : BitVec 32 := 0#32
  let c16384_i32_95 : BitVec 32 := 16384#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v55 : BitVec 32 := Scalar.addi c16384_i32_95 v2
  let v56 : BitVec 32 := Scalar.addi v55 c0_i32_96
  ![0, v56.toNat]
@[reducible] def k0_t2_loop : Scf.Loop 32 :=
  let c0_i32_117 : BitVec 32 := 0#32
  let c128_i32_118 : BitVec 32 := 128#32
  let v70 : BitVec 32 := Scalar.addi c0_i32_117 c128_i32_118
  let c1_i32_119 : BitVec 32 := 1#32
  ⟨c0_i32_117, v70, c1_i32_119⟩
def k0_off8 (k0_t2 : Fin k0_t2_loop.trips) : Fin 2 → Nat :=
  let c0_i32_117 : BitVec 32 := 0#32
  let c1_i32_119 : BitVec 32 := 1#32
  let arg28 : BitVec 32 := Scf.iv c0_i32_117 c1_i32_119 k0_t2
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v222 : Index := Scalar.indexCast v209
  let c256_i32_391 : BitVec 32 := 256#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c256_i32_391 v220
  let v223 : Index := Scalar.indexCast v221
  ![v222.toNat, v223.toNat]

def k0_chk2 (v224 : IVec S16 32) : Prop :=
  (∀ a x, ((![v224] : Fin 1 → IVec S16 32) a x).toNat < S8.size a)
theorem k0_idx2_inb : ∀ (v224 : IVec S16 32) (k0_hw2 : k0_chk2 v224), ∀ a x, ((![v224] : Fin 1 → IVec S16 32) a x).toNat < S8.size a := fun v224 k0_hw2 => k0_hw2
def k0_off9 (k0_t2 : Fin k0_t2_loop.trips) : Fin 2 → Nat :=
  let c0_i32_117 : BitVec 32 := 0#32
  let c1_i32_119 : BitVec 32 := 1#32
  let arg28 : BitVec 32 := Scf.iv c0_i32_117 c1_i32_119 k0_t2
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v226 : Index := Scalar.indexCast v209
  let c256_i32_391 : BitVec 32 := 256#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c256_i32_391 v220
  let v227 : Index := Scalar.indexCast v221
  ![v226.toNat, v227.toNat]
def k0_off10 (i : grid0.Coords) (c0_i32_153 : BitVec 32) : Fin 3 → Nat :=
  let c0_i32_157 : BitVec 32 := 0#32
  let c0_i32_158 : BitVec 32 := 0#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c512_i32 : BitVec 32 := 512#32
  let v2 : BitVec 32 := Scalar.muli v1 c512_i32
  let v91 : BitVec 32 := Scalar.addi v2 c0_i32_153
  ![0, 0, v91.toNat]
@[reducible] def k0_t3_loop : Scf.Loop 32 :=
  let c0_i32_185 : BitVec 32 := 0#32
  let c128_i32_186 : BitVec 32 := 128#32
  let v104 : BitVec 32 := Scalar.addi c0_i32_185 c128_i32_186
  let c1_i32_187 : BitVec 32 := 1#32
  ⟨c0_i32_185, v104, c1_i32_187⟩
def k0_off11 (k0_t3 : Fin k0_t3_loop.trips) : Fin 2 → Nat :=
  let c0_i32_185 : BitVec 32 := 0#32
  let c1_i32_187 : BitVec 32 := 1#32
  let arg28 : BitVec 32 := Scf.iv c0_i32_185 c1_i32_187 k0_t3
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v222 : Index := Scalar.indexCast v209
  let c0_i32_391 : BitVec 32 := 0#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c0_i32_391 v220
  let v223 : Index := Scalar.indexCast v221
  ![v222.toNat, v223.toNat]
def k0_off12 (k0_t3 : Fin k0_t3_loop.trips) : Fin 3 → Nat :=
  let c0_i32_392 : BitVec 32 := 0#32
  let v225 : Index := Scalar.indexCast c0_i32_392
  let c0_i32_185 : BitVec 32 := 0#32
  let c1_i32_187 : BitVec 32 := 1#32
  let arg28 : BitVec 32 := Scf.iv c0_i32_185 c1_i32_187 k0_t3
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v226 : Index := Scalar.indexCast v209
  let c0_i32_391 : BitVec 32 := 0#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c0_i32_391 v220
  let v227 : Index := Scalar.indexCast v221
  ![0, v226.toNat, v227.toNat]
def k0_off13 (k0_t3 : Fin k0_t3_loop.trips) : Fin 3 → Nat :=
  let c1_i32_397 : BitVec 32 := 1#32
  let v248 : Index := Scalar.indexCast c1_i32_397
  let c0_i32_185 : BitVec 32 := 0#32
  let c1_i32_187 : BitVec 32 := 1#32
  let arg28 : BitVec 32 := Scf.iv c0_i32_185 c1_i32_187 k0_t3
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v249 : Index := Scalar.indexCast v209
  let c0_i32_391 : BitVec 32 := 0#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c0_i32_391 v220
  let v250 : Index := Scalar.indexCast v221
  ![1, v249.toNat, v250.toNat]
def k0_off14 (k0_t3 : Fin k0_t3_loop.trips) : Fin 3 → Nat :=
  let c2_i32 : BitVec 32 := 2#32
  let v271 : Index := Scalar.indexCast c2_i32
  let c0_i32_185 : BitVec 32 := 0#32
  let c1_i32_187 : BitVec 32 := 1#32
  let arg28 : BitVec 32 := Scf.iv c0_i32_185 c1_i32_187 k0_t3
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v272 : Index := Scalar.indexCast v209
  let c0_i32_391 : BitVec 32 := 0#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c0_i32_391 v220
  let v273 : Index := Scalar.indexCast v221
  ![2, v272.toNat, v273.toNat]
@[reducible] def k0_t4_loop : Scf.Loop 32 :=
  let c0_i32_254 : BitVec 32 := 0#32
  let c128_i32_255 : BitVec 32 := 128#32
  let v133 : BitVec 32 := Scalar.addi c0_i32_254 c128_i32_255
  let c1_i32_256 : BitVec 32 := 1#32
  ⟨c0_i32_254, v133, c1_i32_256⟩
def k0_off15 (k0_t4 : Fin k0_t4_loop.trips) : Fin 2 → Nat :=
  let c0_i32_254 : BitVec 32 := 0#32
  let c1_i32_256 : BitVec 32 := 1#32
  let arg28 : BitVec 32 := Scf.iv c0_i32_254 c1_i32_256 k0_t4
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v222 : Index := Scalar.indexCast v209
  let c256_i32_391 : BitVec 32 := 256#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c256_i32_391 v220
  let v223 : Index := Scalar.indexCast v221
  ![v222.toNat, v223.toNat]
def k0_off16 (k0_t4 : Fin k0_t4_loop.trips) : Fin 3 → Nat :=
  let c0_i32_392 : BitVec 32 := 0#32
  let v225 : Index := Scalar.indexCast c0_i32_392
  let c0_i32_254 : BitVec 32 := 0#32
  let c1_i32_256 : BitVec 32 := 1#32
  let arg28 : BitVec 32 := Scf.iv c0_i32_254 c1_i32_256 k0_t4
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v226 : Index := Scalar.indexCast v209
  let c256_i32_391 : BitVec 32 := 256#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c256_i32_391 v220
  let v227 : Index := Scalar.indexCast v221
  ![0, v226.toNat, v227.toNat]
def k0_off17 (k0_t4 : Fin k0_t4_loop.trips) : Fin 3 → Nat :=
  let c1_i32_397 : BitVec 32 := 1#32
  let v248 : Index := Scalar.indexCast c1_i32_397
  let c0_i32_254 : BitVec 32 := 0#32
  let c1_i32_256 : BitVec 32 := 1#32
  let arg28 : BitVec 32 := Scf.iv c0_i32_254 c1_i32_256 k0_t4
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v249 : Index := Scalar.indexCast v209
  let c256_i32_391 : BitVec 32 := 256#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c256_i32_391 v220
  let v250 : Index := Scalar.indexCast v221
  ![1, v249.toNat, v250.toNat]
def k0_off18 (k0_t4 : Fin k0_t4_loop.trips) : Fin 3 → Nat :=
  let c2_i32 : BitVec 32 := 2#32
  let v271 : Index := Scalar.indexCast c2_i32
  let c0_i32_254 : BitVec 32 := 0#32
  let c1_i32_256 : BitVec 32 := 1#32
  let arg28 : BitVec 32 := Scf.iv c0_i32_254 c1_i32_256 k0_t4
  let c0_i32_378 : BitVec 32 := 0#32
  let v194 : BitVec 1 := Scalar.cmpi .sgt arg28 c0_i32_378
  let v195 : BitVec 32 := Scalar.extui v194
  let c0_i32_379 : BitVec 32 := 0#32
  let v196 : BitVec 1 := Scalar.cmpi .slt arg28 c0_i32_379
  let v197 : BitVec 32 := Scalar.extui v196
  let v198 : BitVec 32 := Scalar.subi v195 v197
  let c16_i32_377 : BitVec 32 := 16#32
  let c0_i32_380 : BitVec 32 := 0#32
  let v199 : BitVec 1 := Scalar.cmpi .sgt c16_i32_377 c0_i32_380
  let v200 : BitVec 32 := Scalar.extui v199
  let c0_i32_381 : BitVec 32 := 0#32
  let v201 : BitVec 1 := Scalar.cmpi .slt c16_i32_377 c0_i32_381
  let v202 : BitVec 32 := Scalar.extui v201
  let v203 : BitVec 32 := Scalar.subi v200 v202
  let v204 : BitVec 1 := Scalar.cmpi .ne v198 v203
  let v205 : BitVec 32 := Scalar.remsi arg28 c16_i32_377
  let c0_i32_382 : BitVec 32 := 0#32
  let v206 : BitVec 1 := Scalar.cmpi .ne v205 c0_i32_382
  let v207 : BitVec 1 := Scalar.andi v204 v206
  let v193 : BitVec 32 := Scalar.divsi arg28 c16_i32_377
  let c1_i32_383 : BitVec 32 := 1#32
  let v208 : BitVec 32 := Scalar.subi v193 c1_i32_383
  let v209 : BitVec 32 := Scalar.select v207 v208 v193
  let v272 : Index := Scalar.indexCast v209
  let c256_i32_391 : BitVec 32 := 256#32
  let c16_i32_384 : BitVec 32 := 16#32
  let c0_i32_385 : BitVec 32 := 0#32
  let v210 : BitVec 1 := Scalar.cmpi .eq c16_i32_384 c0_i32_385
  let c1_i32_386 : BitVec 32 := 1#32
  let v211 : BitVec 32 := Scalar.select v210 c1_i32_386 c16_i32_384
  let v212 : BitVec 32 := Scalar.remsi arg28 v211
  let c0_i32_388 : BitVec 32 := 0#32
  let v214 : BitVec 1 := Scalar.cmpi .slt v212 c0_i32_388
  let c0_i32_389 : BitVec 32 := 0#32
  let v215 : BitVec 1 := Scalar.cmpi .slt v211 c0_i32_389
  let v216 : BitVec 1 := Scalar.xori v214 v215
  let c0_i32_387 : BitVec 32 := 0#32
  let v213 : BitVec 1 := Scalar.cmpi .ne v212 c0_i32_387
  let v217 : BitVec 1 := Scalar.andi v216 v213
  let v218 : BitVec 32 := Scalar.addi v212 v211
  let v219 : BitVec 32 := Scalar.select v217 v218 v212
  let c16_i32_390 : BitVec 32 := 16#32
  let v220 : BitVec 32 := Scalar.muli v219 c16_i32_390
  let v221 : BitVec 32 := Scalar.addi c256_i32_391 v220
  let v273 : Index := Scalar.indexCast v221
  ![2, v272.toNat, v273.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x16384x3 : Shape := ⟨3, ![8, 16384, 3]⟩
abbrev S8x16384 : Shape := ⟨2, ![8, 16384]⟩
abbrev S8x32768x3 : Shape := ⟨3, ![8, 32768, 3]⟩
abbrev S8 : Shape := ⟨1, ![8]⟩
abbrev S_ : Shape := ⟨0, ![]⟩
abbrev S8x32768 : Shape := ⟨2, ![8, 32768]⟩
abbrev S8x16384x1 : Shape := ⟨3, ![8, 16384, 1]⟩
abbrev S1 : Shape := ⟨1, ![1]⟩
abbrev S1x1x1 : Shape := ⟨3, ![1, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S8x16384, .i32⟩
  | .hbm, ⟨2, _⟩ => ⟨S8x16384x3, .f32⟩
  | .hbm, ⟨3, _⟩ => ⟨S8x32768x3, .f32⟩
  | .hbm, ⟨4, _⟩ => ⟨S8, .f32⟩
  | .hbm, ⟨5, _⟩ => ⟨S_, .i32⟩
  | .hbm, ⟨6, _⟩ => ⟨S8x16384, .i32⟩
  | .hbm, ⟨7, _⟩ => ⟨S8x16384, .i32⟩
  | .hbm, ⟨8, _⟩ => ⟨S8x32768, .i32⟩
  | .hbm, ⟨9, _⟩ => ⟨S_, .i32⟩
  | .hbm, ⟨10, _⟩ => ⟨S8x16384, .i32⟩
  | .hbm, ⟨11, _⟩ => ⟨S8x16384, .i1⟩
  | .hbm, ⟨12, _⟩ => ⟨S_, .i32⟩
  | .hbm, ⟨13, _⟩ => ⟨S8x16384, .i32⟩
  | .hbm, ⟨14, _⟩ => ⟨S8x16384, .i32⟩
  | .hbm, ⟨15, _⟩ => ⟨S8x16384, .i32⟩
  | .hbm, ⟨16, _⟩ => ⟨S8x16384x1, .i32⟩
  | .hbm, ⟨17, _⟩ => ⟨S1, .i32⟩
  | .hbm, ⟨18, _⟩ => ⟨S_, .i32⟩
  | .hbm, ⟨19, _⟩ => ⟨S8x16384x1, .i32⟩
  | .hbm, ⟨20, _⟩ => ⟨S8x16384x1, .i1⟩
  | .hbm, ⟨21, _⟩ => ⟨S1x1x1, .i32⟩
  | .hbm, ⟨22, _⟩ => ⟨S8x16384x1, .i32⟩
  | .hbm, ⟨23, _⟩ => ⟨S8x16384x1, .i1⟩
  | .hbm, ⟨24, _⟩ => ⟨S8x16384x1, .i1⟩
  | .hbm, ⟨25, _⟩ => ⟨S_, .i1⟩
  | .hbm, ⟨26, _⟩ => ⟨S8x16384, .i1⟩
  | .hbm, ⟨27, _⟩ => ⟨S8x16384, .f32⟩
  | .hbm, ⟨28, _⟩ => ⟨S_, .f32⟩
  | .hbm, ⟨29, _⟩ => ⟨S8x16384, .f32⟩
  | .hbm, ⟨30, _⟩ => ⟨S8x16384, .f32⟩
  | .hbm, ⟨31, _⟩ => ⟨S8x16384x1, .f32⟩
  | .hbm, ⟨32, _⟩ => ⟨S8x16384x3, .f32⟩
  | .hbm, ⟨33, _⟩ => ⟨S8x16384x3, .f32⟩
  | .hbm, ⟨34, _⟩ => ⟨S8x16384x3, .f32⟩
  | .hbm, ⟨35, _⟩ => ⟨S8x32768x3, .f32⟩
  | .hbm, ⟨36, _⟩ => ⟨S8x16384x3, .f32⟩
  | .hbm, ⟨37, _⟩ => ⟨S8x16384x3, .f32⟩
  | .hbm, ⟨38, _⟩ => ⟨S8x16384x3, .f32⟩
  | .hbm, ⟨39, _⟩ => ⟨S8x16384x3, .f32⟩
  | .hbm, ⟨40, _⟩ => ⟨S_, .f32⟩
  | .hbm, ⟨41, _⟩ => ⟨S8x16384x1, .f32⟩
  | .hbm, ⟨42, _⟩ => ⟨S8x16384x1, .i1⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst : Ref sig .tc := ⟨.hbm, 40, rfl⟩
abbrev main_v13 : Ref sig .tc := ⟨.hbm, 41, rfl⟩
abbrev main_v14 : Ref sig .tc := ⟨.hbm, 42, rfl⟩

abbrev nD : Nat := 1
abbrev τ : Topo := Topo.v7x

variable {F : FTy → Type} [FloatOps F]
-- ==== Proof.Setup.lean ====
/-
  The launch set-up for the spin-model kernel: the configuration of the program's one vector-subcore call, the resource
  algebra (the handshakes' rounds beside the transfers' counters), and the short names of the arrays and scratches that
  the other modules use.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.MixedBatch
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift

theorem nSub_zero : (K (F := F)).nSub 0 = 16 := rfl
theorem nCore_zero : (K (F := F)).nCore 0 = 2 := rfl

theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

/-- The logic's model for this program. -/
abbrev MM (F : FTy → Type) := MT nD τ sig (HIx 1) (Elt F) ℕ UU ℕ

/-- The handshakes' rounds are the left factor; the transfers' counters are the right one. -/
abbrev EH : Emb UH (MM F) := embL

/-! ## The tile's arrays and scratches, as the kernel's arguments name them -/

abbrev hX0 : Memref sig .scVector .hbm S3x8x16384 .f32 := Memref.whole main_v0_scv
abbrev hX1 : Memref sig .scVector .hbm S3x8x16384 .f32 := Memref.whole main_v1_scv
abbrev hA : Memref sig .scVector .hbm S8x16384 .i32 := Memref.whole main_arg1_scv
abbrev hX2 : Memref sig .scVector .hbm S3x8x32768 .f32 := Memref.whole main_v2_scv
abbrev hTab : Memref sig .scVector .hbm S8 .f32 := Memref.whole main_arg4_scv
abbrev hCS : Memref sig .scVector .hbm S3x8x32768 .f32 := Memref.whole main_v3_0_scv
abbrev hAS : Memref sig .scVector .hbm S8x32768 .i32 := Memref.whole main_v3_1_scv
abbrev hFM : Memref sig .scVector .hbm S3x8x16384 .f32 := Memref.whole main_v3_2_scv
abbrev hMK : Memref sig .scVector .hbm S8x16384 .i32 := Memref.whole main_v3_3_scv

abbrev sC : Memref sig .scVector .vmem S3x8x512 .f32 := Memref.whole cc0_scratch0
abbrev sS : Memref sig .scVector .vmem S3x8x512 .f32 := Memref.whole cc0_scratch1
abbrev sA : Memref sig .scVector .vmem S8x512 .i32 := Memref.whole cc0_scratch2
abbrev sG : Memref sig .scVector .vmem S3x8x512 .f32 := Memref.whole cc0_scratch3
abbrev sTab : Memref sig .scVector .vmem S8 .f32 := Memref.whole cc0_scratch4
abbrev sVm : Memref sig .scVector .vmem S8x512 .f32 := Memref.whole cc0_scratch5
abbrev sAt : Memref sig .scVector .vmem S8x512 .i32 := Memref.whole cc0_scratch6
abbrev sMk : Memref sig .scVector .vmem S8x512 .i32 := Memref.whole cc0_scratch7

/-- The tile's SparseCore and subcore, off the kernel's grid coordinates. -/
abbrev cV (L : grid0.Coords) : Fin τ.nSC := (L 0).castLE hcore0
abbrev jV (L : grid0.Coords) : Fin τ.nSub := (L 1).castLE hsub0

/-! ## Whole-buffer reads and writes through a rectangle -/

theorem readAt_whole_rect {κ : Kind} {Val : EltTy → Type} (b : Ref sig κ) (r : Rect b.ty.shape) (f : b.ty.Contents Val)
    (x : r.shape.Idx) : (Memref.whole b).view.readAt Val r.toLoadRect f x = f (r.emb x) := rfl

/-- What a store through a rectangle of a whole buffer leaves: `f'`, when `f'` is the stored value on the rectangle and
    the old contents off it. -/
theorem write_whole_rect {κ : Kind} {Val : EltTy → Type} (b : Ref sig κ) (r : Rect b.ty.shape) (f f' : b.ty.Contents Val)
    (w : r.shape.Idx → Val b.ty.elt) (i : b.ty.shape.Idx)
    (hin : ∀ x, f' (r.emb x) = w x) (hout : i ∉ r.set → f' i = f i) :
    ((Memref.whole b).access r).write Val f w Finset.univ i = f' i := by
  by_cases hi : i ∈ r.set
  · rw [← Rect.map_emb_univ] at hi
    obtain ⟨x, -, rfl⟩ := Finset.mem_map.mp hi
    rw [hin]
    exact View.write_emb_of_mem (v := (Memref.whole b).access r) f w (Finset.mem_univ x)
  · rw [hout hi]
    refine View.write_of_not_mem (v := (Memref.whole b).access r) f w Finset.univ ?_
    rw [View.setOn_univ]
    rwa [show ((Memref.whole b).access r).set = r.set from View.set_slice_whole b r]

end Cert.Proof.Spin
-- ==== Proof.Values.lean ====
/-
  What a tile's scratches hold, as closed functions of the arrays: the fetched columns, the looked-up spin masks and the
  values the two loops leave. A scratch column `y` of the tile whose columns start at `b` is array column `b + y`.
-/
module

public import proofs.«01_k».proof.Proof.Setup
public import Idealize.ShloMosaic.Lib.Pointwise.Index

@[expose] public section

noncomputable section

namespace Cert.Proof.Spin

open Cert.KernelIdeal Cert.KernelIdeal.Gen

open Idealize.ShloMosaic

variable {F : FTy → Type}

/-! ## The columns a tile owns -/

/-- The first column of the tile at grid point `L`. -/
def colBase (L : grid0.Coords) : ℕ := 8192 * (L 0).val + 512 * (L 1).val

theorem colBase_le (L : grid0.Coords) : colBase L ≤ 15872 := by
  have h0 : (L 0).val < 2 := (L 0).isLt
  have h1 : (L 1).val < 16 := (L 1).isLt
  unfold colBase; omega

/-! ## One element's arithmetic -/

/-- The mask of an atom type: the table at the type. -/
def lookMask (Tb : Vec F S8 .f32) (a : BitVec 32) : F .f32 := Tb (ix1 (Fin.ofNat 8 a.toNat))

/-- The virtual atom's type: eight past the real one's. -/
def shiftType (a : BitVec 32) : BitVec 32 := IntOp.addi a 8#32

variable [FloatOps F]

/-- The virtual atom's coordinate: the real one's moved by the masked spin. -/
def moved (c s v : F .f32) : F .f32 := FloatOps.addf c (FloatOps.mulf s v)

/-- The word that says whether a mask is positive. -/
def maskWord (v : F .f32) : BitVec 32 :=
  k0_pay15 (F := F) (fun _ => v) (ix1 (0 : Fin 16))

/-! ## The scratches -/

/-- Columns `b …` of an 8-row array. -/
def cols2 {α : Type} (b : ℕ) (A : S8x16384.Idx → α) : S8x512.Idx → α :=
  fun x => A (ix2 (x 0) (Fin.ofNat 16384 (b + (x 1).val)))

/-- Columns `b …` of a 3 × 8-row array of 16384 columns. -/
def cols3 {α : Type} (b : ℕ) (X : S3x8x16384.Idx → α) : S3x8x512.Idx → α :=
  fun x => X (ix3 (x 0) (x 1) (Fin.ofNat 16384 (b + (x 2).val)))

/-- Columns `16384 + b …` of a 3 × 8-row array of 32768 columns. -/
def cols3hi {α : Type} (b : ℕ) (X : S3x8x32768.Idx → α) : S3x8x512.Idx → α :=
  fun x => X (ix3 (x 0) (x 1) (Fin.ofNat 32768 (16384 + b + (x 2).val)))

/-- The masks looked up at a scratch of types, the shifted types and the mask words. -/
def masksOf (Tb : Vec F S8 .f32) (a : S8x512.Idx → BitVec 32) : S8x512.Idx → F .f32 := fun x => lookMask Tb (a x)
def shiftsOf (a : S8x512.Idx → BitVec 32) : S8x512.Idx → BitVec 32 := fun x => shiftType (a x)
def wordsOf (Tb : Vec F S8 .f32) (a : S8x512.Idx → BitVec 32) : S8x512.Idx → BitVec 32 := fun x => maskWord (lookMask Tb (a x))

/-- The moved coordinates and the scaled forces over a scratch of coordinates, spins, forces and masks. -/
def movedOf (c s : S3x8x512.Idx → F .f32) (v : S8x512.Idx → F .f32) : S3x8x512.Idx → F .f32 :=
  fun x => moved (c x) (s x) (v (ix2 (x 1) (x 2)))
def scaledOf (g : S3x8x512.Idx → F .f32) (v : S8x512.Idx → F .f32) : S3x8x512.Idx → F .f32 :=
  fun x => FloatOps.mulf (g x) (v (ix2 (x 1) (x 2)))

/-! ## How far a loop has come -/

/-- The trip at which a scratch element of half `x 1 / 256` is written. -/
def grp (x : S8x512.Idx) : ℕ := 16 * (x 0).val + (x 1).val % 256 / 16

/-- The stage (three to a trip) at which an element of a 3 × 8-row scratch is written. -/
def stg (x : S3x8x512.Idx) : ℕ := 3 * (16 * (x 1).val + (x 2).val % 256 / 16) + (x 0).val

/-- A buffer after `k` stages: the new contents where the stage has passed, the old elsewhere. -/
def upTo {ι α : Type} (g : ι → ℕ) (k : ℕ) (new old : ι → α) : ι → α := fun x => if g x < k then new x else old x

theorem upTo_zero {ι α : Type} (g : ι → ℕ) (new old : ι → α) : upTo g 0 new old = old := by
  funext x; simp [upTo]

theorem upTo_done {ι α : Type} (g : ι → ℕ) {k : ℕ} (new old : ι → α) {x : ι} (h : g x < k) : upTo g k new old x = new x := if_pos h

theorem upTo_now {ι α : Type} (g : ι → ℕ) {k : ℕ} (new old : ι → α) {x : ι} (h : g x = k) : upTo g (k + 1) new old x = new x :=
  if_pos (by omega)

theorem upTo_before {ι α : Type} (g : ι → ℕ) {k : ℕ} (new old : ι → α) {x : ι} (h : g x = k) : upTo g k new old x = old x :=
  if_neg (by omega)

theorem upTo_other {ι α : Type} (g : ι → ℕ) {k : ℕ} (new old : ι → α) {x : ι} (h : g x ≠ k) :
    upTo g (k + 1) new old x = upTo g k new old x := by
  unfold upTo
  by_cases h1 : g x < k
  · rw [if_pos h1, if_pos (by omega)]
  · rw [if_neg h1, if_neg (by omega)]

theorem grp_lt (x : S8x512.Idx) : grp x < 128 := by
  have h0 : (x 0).val < 8 := (x 0).isLt
  unfold grp; omega

theorem stg_lt (x : S3x8x512.Idx) : stg x < 3 * 128 := by
  have h0 : (x 0).val < 3 := (x 0).isLt
  have h1 : (x 1).val < 8 := (x 1).isLt
  unfold stg; omega

/-! ## The sixteen-lane rectangles of the loops -/

/-- Row `t / 16`, columns `hb + 16 (t mod 16) …` of an 8-row scratch. -/
def laneOff (hb t : ℕ) : Fin 2 → ℕ := ![t / 16, hb + 16 * (t % 16)]
/-- The same in plane `p` of a 3 × 8-row scratch. -/
def laneOff3 (hb p t : ℕ) : Fin 3 → ℕ := ![p, t / 16, hb + 16 * (t % 16)]

theorem off4_eq (t : Fin k0_t1_loop.trips) : k0_off4 t = laneOff 0 t.val :=
  (by decide +kernel : ∀ t : Fin k0_t1_loop.trips, k0_off4 t = ![t.val / 16, 0 + 16 * (t.val % 16)]) t
theorem off5_eq (t : Fin k0_t1_loop.trips) : k0_off5 t = laneOff 0 t.val :=
  (by decide +kernel : ∀ t : Fin k0_t1_loop.trips, k0_off5 t = ![t.val / 16, 0 + 16 * (t.val % 16)]) t
theorem off8_eq (t : Fin k0_t2_loop.trips) : k0_off8 t = laneOff 256 t.val :=
  (by decide +kernel : ∀ t : Fin k0_t2_loop.trips, k0_off8 t = ![t.val / 16, 256 + 16 * (t.val % 16)]) t
theorem off9_eq (t : Fin k0_t2_loop.trips) : k0_off9 t = laneOff 256 t.val :=
  (by decide +kernel : ∀ t : Fin k0_t2_loop.trips, k0_off9 t = ![t.val / 16, 256 + 16 * (t.val % 16)]) t
theorem off11_eq (t : Fin k0_t3_loop.trips) : k0_off11 t = laneOff 0 t.val :=
  (by decide +kernel : ∀ t : Fin k0_t3_loop.trips, k0_off11 t = ![t.val / 16, 0 + 16 * (t.val % 16)]) t
theorem off12_eq (t : Fin k0_t3_loop.trips) : k0_off12 t = laneOff3 0 0 t.val :=
  (by decide +kernel : ∀ t : Fin k0_t3_loop.trips, k0_off12 t = ![0, t.val / 16, 0 + 16 * (t.val % 16)]) t
theorem off13_eq (t : Fin k0_t3_loop.trips) : k0_off13 t = laneOff3 0 1 t.val :=
  (by decide +kernel : ∀ t : Fin k0_t3_loop.trips, k0_off13 t = ![1, t.val / 16, 0 + 16 * (t.val % 16)]) t
theorem off14_eq (t : Fin k0_t3_loop.trips) : k0_off14 t = laneOff3 0 2 t.val :=
  (by decide +kernel : ∀ t : Fin k0_t3_loop.trips, k0_off14 t = ![2, t.val / 16, 0 + 16 * (t.val % 16)]) t
theorem off15_eq (t : Fin k0_t4_loop.trips) : k0_off15 t = laneOff 256 t.val :=
  (by decide +kernel : ∀ t : Fin k0_t4_loop.trips, k0_off15 t = ![t.val / 16, 256 + 16 * (t.val % 16)]) t
theorem off16_eq (t : Fin k0_t4_loop.trips) : k0_off16 t = laneOff3 256 0 t.val :=
  (by decide +kernel : ∀ t : Fin k0_t4_loop.trips, k0_off16 t = ![0, t.val / 16, 256 + 16 * (t.val % 16)]) t
theorem off17_eq (t : Fin k0_t4_loop.trips) : k0_off17 t = laneOff3 256 1 t.val :=
  (by decide +kernel : ∀ t : Fin k0_t4_loop.trips, k0_off17 t = ![1, t.val / 16, 256 + 16 * (t.val % 16)]) t
theorem off18_eq (t : Fin k0_t4_loop.trips) : k0_off18 t = laneOff3 256 2 t.val :=
  (by decide +kernel : ∀ t : Fin k0_t4_loop.trips, k0_off18 t = ![2, t.val / 16, 256 + 16 * (t.val % 16)]) t

theorem trips1 : k0_t1_loop.trips = 128 := by decide +kernel
theorem trips2 : k0_t2_loop.trips = 128 := by decide +kernel
theorem trips3 : k0_t3_loop.trips = 128 := by decide +kernel
theorem trips4 : k0_t4_loop.trips = 128 := by decide +kernel

/-- A half scratch: columns `hb …` (256 of them). -/
abbrev half2 (hb : ℕ) : Finset S8x512.Idx := Finset.univ.filter fun x => hb ≤ (x 1).val ∧ (x 1).val < hb + 256
abbrev half3 (hb : ℕ) : Finset S3x8x512.Idx := Finset.univ.filter fun x => hb ≤ (x 2).val ∧ (x 2).val < hb + 256

section Lanes

variable {hb t : ℕ} (hhb : hb = 0 ∨ hb = 256)

theorem lane_coords {off : Fin 2 → ℕ} (hoff : off = laneOff hb t) (inb : ∀ a, off a + S1x16.size a ≤ S8x512.size a)
    (x : (Rect.unit (s := S8x512) off S1x16.size inb).shape.Idx) :
    (((Rect.unit (s := S8x512) off S1x16.size inb).emb x) 0).val = t / 16
      ∧ (((Rect.unit (s := S8x512) off S1x16.size inb).emb x) 1).val = hb + 16 * (t % 16) + (x 1).val ∧ (x 1).val < 16 := by
  subst hoff
  have h0 : (x 0).val < 1 := (x 0).isLt
  have h1 : (x 1).val < 16 := (x 1).isLt
  refine ⟨?_, ?_, h1⟩
  · rw [Rect.emb_apply]
    show t / 16 + 1 * (x 0).val = _
    omega
  · rw [Rect.emb_apply]
    show hb + 16 * (t % 16) + 1 * (x 1).val = _
    omega

theorem lane_mem {off : Fin 2 → ℕ} (hoff : off = laneOff hb t) (inb : ∀ a, off a + S1x16.size a ≤ S8x512.size a) (i : S8x512.Idx) :
    i ∈ (Rect.unit (s := S8x512) off S1x16.size inb).set ↔ (i 0).val = t / 16 ∧ hb + 16 * (t % 16) ≤ (i 1).val ∧ (i 1).val < hb + 16 * (t % 16) + 16 := by
  subst hoff
  rw [Rect.mem_set_unit]
  constructor
  · intro h
    have a0 : t / 16 ≤ (i 0).val ∧ (i 0).val < t / 16 + 1 := h 0
    have a1 : hb + 16 * (t % 16) ≤ (i 1).val ∧ (i 1).val < hb + 16 * (t % 16) + 16 := h 1
    exact ⟨by omega, a1.1, a1.2⟩
  · rintro ⟨h0, h1, h2⟩ a
    fin_cases a
    · show t / 16 ≤ (i 0).val ∧ (i 0).val < t / 16 + 1
      omega
    · exact ⟨h1, h2⟩

include hhb in
theorem lane_subset {off : Fin 2 → ℕ} (hoff : off = laneOff hb t) (inb : ∀ a, off a + S1x16.size a ≤ S8x512.size a) :
    (Rect.unit (s := S8x512) off S1x16.size inb).set ⊆ half2 hb := by
  intro i hi
  rw [lane_mem hoff] at hi
  refine Finset.mem_filter.mpr ⟨Finset.mem_univ _, ?_⟩
  omega

include hhb in
theorem lane_grp {off : Fin 2 → ℕ} (hoff : off = laneOff hb t) (inb : ∀ a, off a + S1x16.size a ≤ S8x512.size a) {i : S8x512.Idx}
    (hi : i ∈ half2 hb) : i ∈ (Rect.unit (s := S8x512) off S1x16.size inb).set ↔ grp i = t := by
  rw [lane_mem hoff]
  have hi' := (Finset.mem_filter.mp hi).2
  have h0 : (i 0).val < 8 := (i 0).isLt
  unfold grp
  rcases hhb with rfl | rfl <;> omega

include hhb in
theorem lane_grp_emb {off : Fin 2 → ℕ} (hoff : off = laneOff hb t) (inb : ∀ a, off a + S1x16.size a ≤ S8x512.size a)
    (x : (Rect.unit (s := S8x512) off S1x16.size inb).shape.Idx) : grp ((Rect.unit (s := S8x512) off S1x16.size inb).emb x) = t := by
  have hm : (Rect.unit (s := S8x512) off S1x16.size inb).emb x ∈ (Rect.unit (s := S8x512) off S1x16.size inb).set := by
    rw [← Rect.map_emb_univ]; exact Finset.mem_map_of_mem _ (Finset.mem_univ x)
  exact (lane_grp hhb hoff inb (lane_subset hhb hoff inb hm)).mp hm

variable {p : ℕ} (hp : p < 3)

theorem lane3_mem {off : Fin 3 → ℕ} (hoff : off = laneOff3 hb p t) (inb : ∀ a, off a + S1x1x16.size a ≤ S3x8x512.size a) (i : S3x8x512.Idx) :
    i ∈ (Rect.unit (s := S3x8x512) off S1x1x16.size inb).set
      ↔ (i 0).val = p ∧ (i 1).val = t / 16 ∧ hb + 16 * (t % 16) ≤ (i 2).val ∧ (i 2).val < hb + 16 * (t % 16) + 16 := by
  subst hoff
  rw [Rect.mem_set_unit]
  constructor
  · intro h
    have a0 : p ≤ (i 0).val ∧ (i 0).val < p + 1 := h 0
    have a1 : t / 16 ≤ (i 1).val ∧ (i 1).val < t / 16 + 1 := h 1
    have a2 : hb + 16 * (t % 16) ≤ (i 2).val ∧ (i 2).val < hb + 16 * (t % 16) + 16 := h 2
    exact ⟨by omega, by omega, a2.1, a2.2⟩
  · rintro ⟨h0, h1, h2, h3⟩ a
    fin_cases a
    · show p ≤ (i 0).val ∧ (i 0).val < p + 1
      omega
    · show t / 16 ≤ (i 1).val ∧ (i 1).val < t / 16 + 1
      omega
    · exact ⟨h2, h3⟩

include hhb in
theorem lane3_subset {off : Fin 3 → ℕ} (hoff : off = laneOff3 hb p t) (inb : ∀ a, off a + S1x1x16.size a ≤ S3x8x512.size a) :
    (Rect.unit (s := S3x8x512) off S1x1x16.size inb).set ⊆ half3 hb := by
  intro i hi
  rw [lane3_mem hoff] at hi
  refine Finset.mem_filter.mpr ⟨Finset.mem_univ _, ?_⟩
  omega

include hhb hp in
theorem lane3_stg {off : Fin 3 → ℕ} (hoff : off = laneOff3 hb p t) (inb : ∀ a, off a + S1x1x16.size a ≤ S3x8x512.size a) {i : S3x8x512.Idx}
    (hi : i ∈ half3 hb) : i ∈ (Rect.unit (s := S3x8x512) off S1x1x16.size inb).set ↔ stg i = 3 * t + p := by
  rw [lane3_mem hoff]
  have hi' := (Finset.mem_filter.mp hi).2
  have h0 : (i 0).val < 3 := (i 0).isLt
  have h1 : (i 1).val < 8 := (i 1).isLt
  unfold stg
  rcases hhb with rfl | rfl <;> omega

include hhb hp in
theorem lane3_stg_emb {off : Fin 3 → ℕ} (hoff : off = laneOff3 hb p t) (inb : ∀ a, off a + S1x1x16.size a ≤ S3x8x512.size a)
    (x : (Rect.unit (s := S3x8x512) off S1x1x16.size inb).shape.Idx) :
    stg ((Rect.unit (s := S3x8x512) off S1x1x16.size inb).emb x) = 3 * t + p := by
  have hm : (Rect.unit (s := S3x8x512) off S1x1x16.size inb).emb x ∈ (Rect.unit (s := S3x8x512) off S1x1x16.size inb).set := by
    rw [← Rect.map_emb_univ]; exact Finset.mem_map_of_mem _ (Finset.mem_univ x)
  exact (lane3_stg hhb hp hoff inb (lane3_subset hhb hoff inb hm)).mp hm

end Lanes

end Cert.Proof.Spin
-- ==== Proof.Blocks.lean ====
/-
  The pieces the copies move: the column blocks of the arrays in HBM and the halves of the scratches, each as a set of
  elements, and what a copy leaves on the piece it lands on.
-/
module

public import proofs.«01_k».proof.Proof.Values

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## Column blocks -/

/-- The 256 columns from `o` of a two-axis or three-axis shape of `n` columns. -/
abbrev blk2 {n m : ℕ} (o : ℕ) : Finset (⟨2, ![n, m]⟩ : Shape).Idx := Finset.univ.filter fun x => o ≤ (x 1).val ∧ (x 1).val < o + 256
abbrev blk3 {l n m : ℕ} (o : ℕ) : Finset (⟨3, ![l, n, m]⟩ : Shape).Idx := Finset.univ.filter fun x => o ≤ (x 2).val ∧ (x 2).val < o + 256

theorem unit_set2 {m o : ℕ} {off : Fin 2 → ℕ} (hoff : off = ![0, o]) (inb : ∀ a, off a + S8x256.size a ≤ (⟨2, ![8, m]⟩ : Shape).size a) :
    (Rect.unit (s := ⟨2, ![8, m]⟩) off S8x256.size inb).set = blk2 o := by
  subst hoff
  ext i
  rw [Rect.mem_set_unit, Finset.mem_filter]
  have h0 : (i 0).val < 8 := (i 0).isLt
  constructor
  · intro h
    exact ⟨Finset.mem_univ _, h 1⟩
  · rintro ⟨-, h1⟩ a
    fin_cases a
    · show 0 ≤ (i 0).val ∧ (i 0).val < 0 + 8
      omega
    · exact h1

theorem unit_set3 {m o : ℕ} {off : Fin 3 → ℕ} (hoff : off = ![0, 0, o]) (inb : ∀ a, off a + S3x8x256.size a ≤ (⟨3, ![3, 8, m]⟩ : Shape).size a) :
    (Rect.unit (s := ⟨3, ![3, 8, m]⟩) off S3x8x256.size inb).set = blk3 o := by
  subst hoff
  ext i
  rw [Rect.mem_set_unit, Finset.mem_filter]
  have h0 : (i 0).val < 3 := (i 0).isLt
  have h1 : (i 1).val < 8 := (i 1).isLt
  constructor
  · intro h
    exact ⟨Finset.mem_univ _, h 2⟩
  · rintro ⟨-, h2⟩ a
    fin_cases a
    · show 0 ≤ (i 0).val ∧ (i 0).val < 0 + 3
      omega
    · show 0 ≤ (i 1).val ∧ (i 1).val < 0 + 8
      omega
    · exact h2

/-- Reading a block of a whole two-axis buffer. -/
theorem unit_emb2 {m o : ℕ} {off : Fin 2 → ℕ} (hoff : off = ![0, o]) (inb : ∀ a, off a + S8x256.size a ≤ (⟨2, ![8, m]⟩ : Shape).size a)
    (h : ∀ j : Fin 256, o + j.val < m) (k : S8x256.Idx) :
    (Rect.unit (s := ⟨2, ![8, m]⟩) off S8x256.size inb).emb k = ix2 (k 0) ⟨o + (k 1).val, h (k 1)⟩ := by
  subst hoff
  funext a
  refine Fin.ext ?_
  rw [Rect.emb_apply]
  fin_cases a
  · show 0 + 1 * (k 0).val = (k 0).val
    omega
  · show o + 1 * (k 1).val = o + (k 1).val
    omega

theorem unit_emb3 {m o : ℕ} {off : Fin 3 → ℕ} (hoff : off = ![0, 0, o]) (inb : ∀ a, off a + S3x8x256.size a ≤ (⟨3, ![3, 8, m]⟩ : Shape).size a)
    (h : ∀ j : Fin 256, o + j.val < m) (k : S3x8x256.Idx) :
    (Rect.unit (s := ⟨3, ![3, 8, m]⟩) off S3x8x256.size inb).emb k = ix3 (k 0) (k 1) ⟨o + (k 2).val, h (k 2)⟩ := by
  subst hoff
  funext a
  refine Fin.ext ?_
  rw [Rect.emb_apply]
  fin_cases a
  · show 0 + 1 * (k 0).val = (k 0).val
    omega
  · show 0 + 1 * (k 1).val = (k 1).val
    omega
  · show o + 1 * (k 2).val = o + (k 2).val
    omega

/-! ## A copy's landing -/

/-- What a copy leaves on its destination is `G`, when `G` read there is the source read. -/
theorem landed {sp sp' : Space} {s : Shape} {e : EltTy} (D : Memref sig .scVector sp s e) (Sm : Memref sig .scVector sp' s e)
    (c : Fin τ.nSC) (j : Fin τ.nSub) (d : Dev nD) (q : PosShare TreeShare) (f0 G : D.view.ty.Contents (Elt F)) (fs : Sm.view.ty.Contents (Elt F))
    (h : ∀ k, D.view.read (Elt F) G k = Sm.view.read (Elt F) fs k) :
    ((D.view.loc (V d c j) ↦[D.view.set]{q} D.view.writes (Elt F) f0 [⟨Rect.whole _, ReadAs.same.apply (Sm.view.read (Elt F) fs)⟩] : sProp 𝕄))
      = (D.view.loc (V d c j) ↦[D.view.set]{q} G) := by
  refine pointsTo_congr (ℓ := D.view.loc (V d c j)) fun i hi => ?_
  obtain ⟨k, -, rfl⟩ := Finset.mem_map.mp hi
  have h1 := View.read_writes_cons_emb D.view f0 (Rect.whole s) (ReadAs.same.apply (Sm.view.read (Elt F) fs)) [] k
  have h2 : D.view.read (Elt F) (D.view.writes (Elt F) f0 [⟨Rect.whole s, ReadAs.same.apply (Sm.view.read (Elt F) fs)⟩]) k = D.view.read (Elt F) G k := by
    refine Eq.trans ?_ (h k).symm
    have e : (Rect.whole s).emb k = k := Rect.emb_whole_apply s k
    rw [e] at h1
    exact h1
  rw [View.read_apply, View.read_apply] at h2
  exact (cast_inj _).mp h2

/-- A slice of a whole buffer held on its set, as the buffer held on the set. -/
theorem slice_pts (b : Ref sig .scVector) (c : Fin τ.nSC) (j : Fin τ.nSub) (d : Dev nD) (q : PosShare TreeShare)
    (f : b.ty.Contents (Elt F)) (R : Rect b.ty.shape) (St : Finset b.ty.shape.Idx) (hR : R.set = St) :
    ((((Memref.whole b).access R).loc (V d c j) ↦[((Memref.whole b).access R).set]{q} f : sProp 𝕄))
      = ((Memref.whole b).view.loc (V d c j) ↦[St]{q} f) := by
  subst hR
  rw [show ((Memref.whole b).access R).set = R.set from View.set_slice_whole b R]

/-! ## The program's pieces -/

section Pieces

variable (L : grid0.Coords)

abbrev X0l : Memref sig .scVector .hbm S3x8x256 .f32 := hX0.slice (Rect.unit (s := S3x8x16384) (k0_off2 L 0#32) S3x8x256.size (k0_off2_inb L 0)) (fun _ => rfl)
abbrev X0h : Memref sig .scVector .hbm S3x8x256 .f32 := hX0.slice (Rect.unit (s := S3x8x16384) (k0_off2 L 256#32) S3x8x256.size (k0_off2_inb L 1)) (fun _ => rfl)
abbrev X1l : Memref sig .scVector .hbm S3x8x256 .f32 := hX1.slice (Rect.unit (s := S3x8x16384) (k0_off2 L 0#32) S3x8x256.size (k0_off2_inb L 0)) (fun _ => rfl)
abbrev X1h : Memref sig .scVector .hbm S3x8x256 .f32 := hX1.slice (Rect.unit (s := S3x8x16384) (k0_off2 L 256#32) S3x8x256.size (k0_off2_inb L 1)) (fun _ => rfl)
abbrev Abl : Memref sig .scVector .hbm S8x256 .i32 := hA.slice (Rect.unit (s := S8x16384) (k0_off1 L 0#32) S8x256.size (k0_off1_inb L 0)) (fun _ => rfl)
abbrev Abh : Memref sig .scVector .hbm S8x256 .i32 := hA.slice (Rect.unit (s := S8x16384) (k0_off1 L 256#32) S8x256.size (k0_off1_inb L 1)) (fun _ => rfl)
abbrev X2l : Memref sig .scVector .hbm S3x8x256 .f32 := hX2.slice (Rect.unit (s := S3x8x32768) (k0_off3 L 0#32) S3x8x256.size (k0_off3_inb L 0)) (fun _ => rfl)
abbrev X2h : Memref sig .scVector .hbm S3x8x256 .f32 := hX2.slice (Rect.unit (s := S3x8x32768) (k0_off3 L 256#32) S3x8x256.size (k0_off3_inb L 1)) (fun _ => rfl)
abbrev C0l : Memref sig .scVector .hbm S3x8x256 .f32 := hCS.slice (Rect.unit (s := S3x8x32768) (k0_off10 L 0#32) S3x8x256.size (k0_off10_inb L 0)) (fun _ => rfl)
abbrev C0h : Memref sig .scVector .hbm S3x8x256 .f32 := hCS.slice (Rect.unit (s := S3x8x32768) (k0_off10 L 256#32) S3x8x256.size (k0_off10_inb L 1)) (fun _ => rfl)
abbrev C1l : Memref sig .scVector .hbm S3x8x256 .f32 := hCS.slice (Rect.unit (s := S3x8x32768) (k0_off3 L 0#32) S3x8x256.size (k0_off3_inb L 0)) (fun _ => rfl)
abbrev C1h : Memref sig .scVector .hbm S3x8x256 .f32 := hCS.slice (Rect.unit (s := S3x8x32768) (k0_off3 L 256#32) S3x8x256.size (k0_off3_inb L 1)) (fun _ => rfl)
abbrev T0l : Memref sig .scVector .hbm S8x256 .i32 := hAS.slice (Rect.unit (s := S8x32768) (k0_off6 L 0#32) S8x256.size (k0_off6_inb L 0)) (fun _ => rfl)
abbrev T0h : Memref sig .scVector .hbm S8x256 .i32 := hAS.slice (Rect.unit (s := S8x32768) (k0_off6 L 256#32) S8x256.size (k0_off6_inb L 1)) (fun _ => rfl)
abbrev T1l : Memref sig .scVector .hbm S8x256 .i32 := hAS.slice (Rect.unit (s := S8x32768) (k0_off7 L 0#32) S8x256.size (k0_off7_inb L 0)) (fun _ => rfl)
abbrev T1h : Memref sig .scVector .hbm S8x256 .i32 := hAS.slice (Rect.unit (s := S8x32768) (k0_off7 L 256#32) S8x256.size (k0_off7_inb L 1)) (fun _ => rfl)
abbrev Fml : Memref sig .scVector .hbm S3x8x256 .f32 := hFM.slice (Rect.unit (s := S3x8x16384) (k0_off2 L 0#32) S3x8x256.size (k0_off2_inb L 0)) (fun _ => rfl)
abbrev Fmh : Memref sig .scVector .hbm S3x8x256 .f32 := hFM.slice (Rect.unit (s := S3x8x16384) (k0_off2 L 256#32) S3x8x256.size (k0_off2_inb L 1)) (fun _ => rfl)
abbrev Mkl : Memref sig .scVector .hbm S8x256 .i32 := hMK.slice (Rect.unit (s := S8x16384) (k0_off1 L 0#32) S8x256.size (k0_off1_inb L 0)) (fun _ => rfl)
abbrev Mkh : Memref sig .scVector .hbm S8x256 .i32 := hMK.slice (Rect.unit (s := S8x16384) (k0_off1 L 256#32) S8x256.size (k0_off1_inb L 1)) (fun _ => rfl)
abbrev sCl : Memref sig .scVector .vmem S3x8x256 .f32 := sC.slice (Rect.unit (s := S3x8x512) ![0, 0, 0] S3x8x256.size inb_S3x8x512_S3x8x256_0_0_0) (fun _ => rfl)
abbrev sCh : Memref sig .scVector .vmem S3x8x256 .f32 := sC.slice (Rect.unit (s := S3x8x512) ![0, 0, 256] S3x8x256.size inb_S3x8x512_S3x8x256_0_0_256) (fun _ => rfl)
abbrev sSl : Memref sig .scVector .vmem S3x8x256 .f32 := sS.slice (Rect.unit (s := S3x8x512) ![0, 0, 0] S3x8x256.size inb_S3x8x512_S3x8x256_0_0_0) (fun _ => rfl)
abbrev sSh : Memref sig .scVector .vmem S3x8x256 .f32 := sS.slice (Rect.unit (s := S3x8x512) ![0, 0, 256] S3x8x256.size inb_S3x8x512_S3x8x256_0_0_256) (fun _ => rfl)
abbrev sGl : Memref sig .scVector .vmem S3x8x256 .f32 := sG.slice (Rect.unit (s := S3x8x512) ![0, 0, 0] S3x8x256.size inb_S3x8x512_S3x8x256_0_0_0) (fun _ => rfl)
abbrev sGh : Memref sig .scVector .vmem S3x8x256 .f32 := sG.slice (Rect.unit (s := S3x8x512) ![0, 0, 256] S3x8x256.size inb_S3x8x512_S3x8x256_0_0_256) (fun _ => rfl)
abbrev sAl : Memref sig .scVector .vmem S8x256 .i32 := sA.slice (Rect.unit (s := S8x512) ![0, 0] S8x256.size inb_S8x512_S8x256_0_0) (fun _ => rfl)
abbrev sAh : Memref sig .scVector .vmem S8x256 .i32 := sA.slice (Rect.unit (s := S8x512) ![0, 256] S8x256.size inb_S8x512_S8x256_0_256) (fun _ => rfl)
abbrev sAtl : Memref sig .scVector .vmem S8x256 .i32 := sAt.slice (Rect.unit (s := S8x512) ![0, 0] S8x256.size inb_S8x512_S8x256_0_0) (fun _ => rfl)
abbrev sAth : Memref sig .scVector .vmem S8x256 .i32 := sAt.slice (Rect.unit (s := S8x512) ![0, 256] S8x256.size inb_S8x512_S8x256_0_256) (fun _ => rfl)
abbrev sMkl : Memref sig .scVector .vmem S8x256 .i32 := sMk.slice (Rect.unit (s := S8x512) ![0, 0] S8x256.size inb_S8x512_S8x256_0_0) (fun _ => rfl)
abbrev sMkh : Memref sig .scVector .vmem S8x256 .i32 := sMk.slice (Rect.unit (s := S8x512) ![0, 256] S8x256.size inb_S8x512_S8x256_0_256) (fun _ => rfl)

theorem offAt1 (r : Fin 2) : k0_off1 L (BitVec.ofNat 32 (256 * r.val)) = ![0, colBase L + 256 * r.val] := k0_off1_eq L r
theorem offAt2 (r : Fin 2) : k0_off2 L (BitVec.ofNat 32 (256 * r.val)) = ![0, 0, colBase L + 256 * r.val] := k0_off2_eq L r
theorem offAt3 (r : Fin 2) : k0_off3 L (BitVec.ofNat 32 (256 * r.val)) = ![0, 0, colBase L + 256 * r.val + 16384] := k0_off3_eq L r
theorem offAt6 (r : Fin 2) : k0_off6 L (BitVec.ofNat 32 (256 * r.val)) = ![0, colBase L + 256 * r.val] := k0_off6_eq L r
theorem offAt7 (r : Fin 2) : k0_off7 L (BitVec.ofNat 32 (256 * r.val)) = ![0, colBase L + 256 * r.val + 16384] := k0_off7_eq L r
theorem offAt10 (r : Fin 2) : k0_off10 L (BitVec.ofNat 32 (256 * r.val)) = ![0, 0, colBase L + 256 * r.val] := k0_off10_eq L r

end Pieces

/-! ## What the arrays hold after the run -/

section Results

variable (X0 X1 : S3x8x16384.Idx → F .f32) (A : S8x16384.Idx → BitVec 32) (X2 : S3x8x32768.Idx → F .f32) (Tb : Vec F S8 .f32)

/-- The real atom behind column `x` of a doubled array. -/
def atomOf (x : Fin 32768) : Fin 16384 := Fin.ofNat 16384 x.val

/-- Coordinates, then the virtual atoms' coordinates. -/
def csAll : S3x8x32768.Idx → F .f32 := fun x =>
  if (x 2).val < 16384 then X0 (ix3 (x 0) (x 1) (atomOf (x 2)))
  else moved (X0 (ix3 (x 0) (x 1) (atomOf (x 2)))) (X1 (ix3 (x 0) (x 1) (atomOf (x 2)))) (lookMask Tb (A (ix2 (x 1) (atomOf (x 2)))))

/-- Types, then the virtual atoms' types. -/
def asAll : S8x32768.Idx → BitVec 32 := fun x =>
  if (x 1).val < 16384 then A (ix2 (x 0) (atomOf (x 1))) else shiftType (A (ix2 (x 0) (atomOf (x 1))))

/-- The virtual atoms' forces, scaled. -/
def fmAll : S3x8x16384.Idx → F .f32 := fun x =>
  FloatOps.mulf (X2 (ix3 (x 0) (x 1) (Fin.ofNat 32768 (16384 + (x 2).val)))) (lookMask Tb (A (ix2 (x 1) (x 2))))

/-- The mask words. -/
def mkAll : S8x16384.Idx → BitVec 32 := fun x => maskWord (lookMask Tb (A x))

variable {b hb : ℕ} (hb256 : hb = 0 ∨ hb = 256) (hb' : b ≤ 15872)

variable {o2 o2' : Fin 2 → ℕ} (e2 : o2' = ![0, hb]) (inb2' : ∀ a, o2' a + S8x256.size a ≤ S8x512.size a)
variable {o3 o3' : Fin 3 → ℕ} (e3 : o3' = ![0, 0, hb]) (inb3' : ∀ a, o3' a + S3x8x256.size a ≤ S3x8x512.size a)

include hb256 hb' e2 in
theorem in2 (h : o2 = ![0, b + hb]) (inb : ∀ a, o2 a + S8x256.size a ≤ S8x16384.size a) (k : S8x256.Idx) :
    cols2 b A ((Rect.unit (s := S8x512) o2' S8x256.size inb2').emb k) = A ((Rect.unit (s := S8x16384) o2 S8x256.size inb).emb k) := by
  have hk : ∀ j : Fin 256, b + hb + j.val < 16384 := fun j => by have := j.isLt; omega
  have hk' : ∀ j : Fin 256, hb + j.val < 512 := fun j => by have := j.isLt; omega
  rw [unit_emb2 h inb hk, unit_emb2 e2 inb2' hk']
  refine congrArg A (congrArg (ix2 (k 0)) (Fin.ext ?_))
  have := hk (k 1)
  show (b + (hb + (k 1).val)) % 16384 = b + hb + (k 1).val
  omega

include hb256 hb' e3 in
theorem in3 (h : o3 = ![0, 0, b + hb]) (inb : ∀ a, o3 a + S3x8x256.size a ≤ S3x8x16384.size a) (k : S3x8x256.Idx) :
    cols3 b X0 ((Rect.unit (s := S3x8x512) o3' S3x8x256.size inb3').emb k) = X0 ((Rect.unit (s := S3x8x16384) o3 S3x8x256.size inb).emb k) := by
  have hk : ∀ j : Fin 256, b + hb + j.val < 16384 := fun j => by have := j.isLt; omega
  have hk' : ∀ j : Fin 256, hb + j.val < 512 := fun j => by have := j.isLt; omega
  rw [unit_emb3 h inb hk, unit_emb3 e3 inb3' hk']
  refine congrArg X0 (congrArg (ix3 (k 0) (k 1)) (Fin.ext ?_))
  have := hk (k 2)
  show (b + (hb + (k 2).val)) % 16384 = b + hb + (k 2).val
  omega

include hb256 hb' e3 in
theorem in3hi (h : o3 = ![0, 0, b + hb + 16384]) (inb : ∀ a, o3 a + S3x8x256.size a ≤ S3x8x32768.size a) (k : S3x8x256.Idx) :
    cols3hi b X2 ((Rect.unit (s := S3x8x512) o3' S3x8x256.size inb3').emb k) = X2 ((Rect.unit (s := S3x8x32768) o3 S3x8x256.size inb).emb k) := by
  have hk : ∀ j : Fin 256, b + hb + 16384 + j.val < 32768 := fun j => by have := j.isLt; omega
  have hk' : ∀ j : Fin 256, hb + j.val < 512 := fun j => by have := j.isLt; omega
  rw [unit_emb3 h inb hk, unit_emb3 e3 inb3' hk']
  refine congrArg X2 (congrArg (ix3 (k 0) (k 1)) (Fin.ext ?_))
  have := hk (k 2)
  show (16384 + b + (hb + (k 2).val)) % 32768 = b + hb + 16384 + (k 2).val
  omega

include hb256 hb' e2 in
theorem out_as_lo (h : o2 = ![0, b + hb]) (inb : ∀ a, o2 a + S8x256.size a ≤ S8x32768.size a) (k : S8x256.Idx) :
    asAll A ((Rect.unit (s := S8x32768) o2 S8x256.size inb).emb k) = cols2 b A ((Rect.unit (s := S8x512) o2' S8x256.size inb2').emb k) := by
  have hk : ∀ j : Fin 256, b + hb + j.val < 16384 := fun j => by have := j.isLt; omega
  have hk' : ∀ j : Fin 256, hb + j.val < 512 := fun j => by have := j.isLt; omega
  rw [unit_emb2 h inb (fun j => (hk j).trans (by decide)), unit_emb2 e2 inb2' hk']
  have := hk (k 1)
  refine (if_pos (show b + hb + (k 1).val < 16384 from this)).trans ?_
  refine congrArg A (congrArg (ix2 (k 0)) (Fin.ext ?_))
  show (b + hb + (k 1).val) % 16384 = (b + (hb + (k 1).val)) % 16384
  omega

include hb256 hb' e2 in
theorem out_as_hi (h : o2 = ![0, b + hb + 16384]) (inb : ∀ a, o2 a + S8x256.size a ≤ S8x32768.size a) (k : S8x256.Idx) :
    asAll A ((Rect.unit (s := S8x32768) o2 S8x256.size inb).emb k) = shiftsOf (cols2 b A) ((Rect.unit (s := S8x512) o2' S8x256.size inb2').emb k) := by
  have hk : ∀ j : Fin 256, b + hb + 16384 + j.val < 32768 := fun j => by have := j.isLt; omega
  have hk' : ∀ j : Fin 256, hb + j.val < 512 := fun j => by have := j.isLt; omega
  rw [unit_emb2 h inb hk, unit_emb2 e2 inb2' hk']
  have := hk (k 1)
  refine (if_neg (show ¬ b + hb + 16384 + (k 1).val < 16384 by omega)).trans ?_
  refine congrArg (fun z => shiftType (A z)) (congrArg (ix2 (k 0)) (Fin.ext ?_))
  show (b + hb + 16384 + (k 1).val) % 16384 = (b + (hb + (k 1).val)) % 16384
  omega

include hb256 hb' e2 in
theorem out_mk (h : o2 = ![0, b + hb]) (inb : ∀ a, o2 a + S8x256.size a ≤ S8x16384.size a) (k : S8x256.Idx) :
    mkAll A Tb ((Rect.unit (s := S8x16384) o2 S8x256.size inb).emb k) = wordsOf Tb (cols2 b A) ((Rect.unit (s := S8x512) o2' S8x256.size inb2').emb k) :=
  congrArg (fun z => maskWord (lookMask Tb z)) (in2 A hb256 hb' e2 inb2' h inb k).symm

include hb256 hb' e3 in
theorem out_cs_lo (h : o3 = ![0, 0, b + hb]) (inb : ∀ a, o3 a + S3x8x256.size a ≤ S3x8x32768.size a) (k : S3x8x256.Idx) :
    csAll X0 X1 A Tb ((Rect.unit (s := S3x8x32768) o3 S3x8x256.size inb).emb k) = cols3 b X0 ((Rect.unit (s := S3x8x512) o3' S3x8x256.size inb3').emb k) := by
  have hk : ∀ j : Fin 256, b + hb + j.val < 16384 := fun j => by have := j.isLt; omega
  have hk' : ∀ j : Fin 256, hb + j.val < 512 := fun j => by have := j.isLt; omega
  rw [unit_emb3 h inb (fun j => (hk j).trans (by decide)), unit_emb3 e3 inb3' hk']
  have := hk (k 2)
  refine (if_pos (show b + hb + (k 2).val < 16384 from this)).trans ?_
  refine congrArg X0 (congrArg (ix3 (k 0) (k 1)) (Fin.ext ?_))
  show (b + hb + (k 2).val) % 16384 = (b + (hb + (k 2).val)) % 16384
  omega

include hb256 hb' e3 in
theorem out_cs_hi (h : o3 = ![0, 0, b + hb + 16384]) (inb : ∀ a, o3 a + S3x8x256.size a ≤ S3x8x32768.size a) (k : S3x8x256.Idx) :
    csAll X0 X1 A Tb ((Rect.unit (s := S3x8x32768) o3 S3x8x256.size inb).emb k)
      = movedOf (cols3 b X0) (cols3 b X1) (masksOf Tb (cols2 b A)) ((Rect.unit (s := S3x8x512) o3' S3x8x256.size inb3').emb k) := by
  have hk : ∀ j : Fin 256, b + hb + 16384 + j.val < 32768 := fun j => by have := j.isLt; omega
  have hk' : ∀ j : Fin 256, hb + j.val < 512 := fun j => by have := j.isLt; omega
  rw [unit_emb3 h inb hk, unit_emb3 e3 inb3' hk']
  have := hk (k 2)
  refine (if_neg (show ¬ b + hb + 16384 + (k 2).val < 16384 by omega)).trans ?_
  have hc : atomOf ⟨b + hb + 16384 + (k 2).val, hk (k 2)⟩ = Fin.ofNat 16384 (b + (hb + (k 2).val)) := by
    refine Fin.ext ?_
    show (b + hb + 16384 + (k 2).val) % 16384 = (b + (hb + (k 2).val)) % 16384
    omega
  show moved (X0 (ix3 (k 0) (k 1) (atomOf ⟨b + hb + 16384 + (k 2).val, hk (k 2)⟩))) (X1 (ix3 (k 0) (k 1) (atomOf ⟨b + hb + 16384 + (k 2).val, hk (k 2)⟩)))
    (lookMask Tb (A (ix2 (k 1) (atomOf ⟨b + hb + 16384 + (k 2).val, hk (k 2)⟩)))) = _
  rw [hc]
  rfl

include hb256 hb' e3 in
theorem out_fm (h : o3 = ![0, 0, b + hb]) (inb : ∀ a, o3 a + S3x8x256.size a ≤ S3x8x16384.size a) (k : S3x8x256.Idx) :
    fmAll A X2 Tb ((Rect.unit (s := S3x8x16384) o3 S3x8x256.size inb).emb k)
      = scaledOf (cols3hi b X2) (masksOf Tb (cols2 b A)) ((Rect.unit (s := S3x8x512) o3' S3x8x256.size inb3').emb k) := by
  have hk : ∀ j : Fin 256, b + hb + j.val < 16384 := fun j => by have := j.isLt; omega
  have hk' : ∀ j : Fin 256, hb + j.val < 512 := fun j => by have := j.isLt; omega
  rw [unit_emb3 h inb hk, unit_emb3 e3 inb3' hk']
  have := hk (k 2)
  have hc : (⟨b + hb + (k 2).val, hk (k 2)⟩ : Fin 16384) = Fin.ofNat 16384 (b + (hb + (k 2).val)) := by
    refine Fin.ext ?_
    show b + hb + (k 2).val = (b + (hb + (k 2).val)) % 16384
    omega
  have hd : (16384 + (b + hb + (k 2).val)) = 16384 + b + (hb + (k 2).val) := by omega
  show FloatOps.mulf (X2 (ix3 (k 0) (k 1) (Fin.ofNat 32768 (16384 + (b + hb + (k 2).val))))) (lookMask Tb (A (ix2 (k 1) ⟨b + hb + (k 2).val, hk (k 2)⟩))) = _
  rw [hc, hd]
  rfl

end Results

end Cert.Proof.Spin
-- ==== Proof.Pieces.lean ====
/-
  The program's pieces, each held by its own elements, as the array or scratch held on a block of columns.
-/
module

public import proofs.«01_k».proof.Proof.Blocks

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (L : grid0.Coords) (d : Dev nD) (q : PosShare TreeShare)

theorem off1l : k0_off1 L 0#32 = ![0, colBase L + 0] := offAt1 L 0
theorem off1h : k0_off1 L 256#32 = ![0, colBase L + 256] := offAt1 L 1
theorem off2l : k0_off2 L 0#32 = ![0, 0, colBase L + 0] := offAt2 L 0
theorem off2h : k0_off2 L 256#32 = ![0, 0, colBase L + 256] := offAt2 L 1
theorem off3l : k0_off3 L 0#32 = ![0, 0, colBase L + 0 + 16384] := offAt3 L 0
theorem off3h : k0_off3 L 256#32 = ![0, 0, colBase L + 256 + 16384] := offAt3 L 1
theorem off6l : k0_off6 L 0#32 = ![0, colBase L + 0] := offAt6 L 0
theorem off6h : k0_off6 L 256#32 = ![0, colBase L + 256] := offAt6 L 1
theorem off7l : k0_off7 L 0#32 = ![0, colBase L + 0 + 16384] := offAt7 L 0
theorem off7h : k0_off7 L 256#32 = ![0, colBase L + 256 + 16384] := offAt7 L 1
theorem off10l : k0_off10 L 0#32 = ![0, 0, colBase L + 0] := offAt10 L 0
theorem off10h : k0_off10 L 256#32 = ![0, 0, colBase L + 256] := offAt10 L 1

theorem X0l_set : (X0l L).view.set = blk3 (colBase L + 0) := by
  refine (View.set_slice_whole main_v0_scv (Rect.unit (s := S3x8x16384) (k0_off2 L 0#32) S3x8x256.size (k0_off2_inb L 0))).trans ?_
  exact unit_set3 (off2l L) _
theorem X0l_pts (f : S3x8x16384.Idx → F .f32) :
    (((X0l L).view.loc (V d (cV L) (jV L)) ↦[(X0l L).view.set]{q} f : sProp 𝕄)) = (hX0.view.loc (V d (cV L) (jV L)) ↦[blk3 (colBase L + 0)]{q} f) := by
  rw [X0l_set]
theorem X0h_set : (X0h L).view.set = blk3 (colBase L + 256) := by
  refine (View.set_slice_whole main_v0_scv (Rect.unit (s := S3x8x16384) (k0_off2 L 256#32) S3x8x256.size (k0_off2_inb L 1))).trans ?_
  exact unit_set3 (off2h L) _
theorem X0h_pts (f : S3x8x16384.Idx → F .f32) :
    (((X0h L).view.loc (V d (cV L) (jV L)) ↦[(X0h L).view.set]{q} f : sProp 𝕄)) = (hX0.view.loc (V d (cV L) (jV L)) ↦[blk3 (colBase L + 256)]{q} f) := by
  rw [X0h_set]
theorem X1l_set : (X1l L).view.set = blk3 (colBase L + 0) := by
  refine (View.set_slice_whole main_v1_scv (Rect.unit (s := S3x8x16384) (k0_off2 L 0#32) S3x8x256.size (k0_off2_inb L 0))).trans ?_
  exact unit_set3 (off2l L) _
theorem X1l_pts (f : S3x8x16384.Idx → F .f32) :
    (((X1l L).view.loc (V d (cV L) (jV L)) ↦[(X1l L).view.set]{q} f : sProp 𝕄)) = (hX1.view.loc (V d (cV L) (jV L)) ↦[blk3 (colBase L + 0)]{q} f) := by
  rw [X1l_set]
theorem X1h_set : (X1h L).view.set = blk3 (colBase L + 256) := by
  refine (View.set_slice_whole main_v1_scv (Rect.unit (s := S3x8x16384) (k0_off2 L 256#32) S3x8x256.size (k0_off2_inb L 1))).trans ?_
  exact unit_set3 (off2h L) _
theorem X1h_pts (f : S3x8x16384.Idx → F .f32) :
    (((X1h L).view.loc (V d (cV L) (jV L)) ↦[(X1h L).view.set]{q} f : sProp 𝕄)) = (hX1.view.loc (V d (cV L) (jV L)) ↦[blk3 (colBase L + 256)]{q} f) := by
  rw [X1h_set]
theorem Abl_set : (Abl L).view.set = blk2 (colBase L + 0) := by
  refine (View.set_slice_whole main_arg1_scv (Rect.unit (s := S8x16384) (k0_off1 L 0#32) S8x256.size (k0_off1_inb L 0))).trans ?_
  exact unit_set2 (off1l L) _
theorem Abl_pts (f : S8x16384.Idx → BitVec 32) :
    (((Abl L).view.loc (V d (cV L) (jV L)) ↦[(Abl L).view.set]{q} f : sProp 𝕄)) = (hA.view.loc (V d (cV L) (jV L)) ↦[blk2 (colBase L + 0)]{q} f) := by
  rw [Abl_set]
theorem Abh_set : (Abh L).view.set = blk2 (colBase L + 256) := by
  refine (View.set_slice_whole main_arg1_scv (Rect.unit (s := S8x16384) (k0_off1 L 256#32) S8x256.size (k0_off1_inb L 1))).trans ?_
  exact unit_set2 (off1h L) _
theorem Abh_pts (f : S8x16384.Idx → BitVec 32) :
    (((Abh L).view.loc (V d (cV L) (jV L)) ↦[(Abh L).view.set]{q} f : sProp 𝕄)) = (hA.view.loc (V d (cV L) (jV L)) ↦[blk2 (colBase L + 256)]{q} f) := by
  rw [Abh_set]
theorem X2l_set : (X2l L).view.set = blk3 (colBase L + 0 + 16384) := by
  refine (View.set_slice_whole main_v2_scv (Rect.unit (s := S3x8x32768) (k0_off3 L 0#32) S3x8x256.size (k0_off3_inb L 0))).trans ?_
  exact unit_set3 (off3l L) _
theorem X2l_pts (f : S3x8x32768.Idx → F .f32) :
    (((X2l L).view.loc (V d (cV L) (jV L)) ↦[(X2l L).view.set]{q} f : sProp 𝕄)) = (hX2.view.loc (V d (cV L) (jV L)) ↦[blk3 (colBase L + 0 + 16384)]{q} f) := by
  rw [X2l_set]
theorem X2h_set : (X2h L).view.set = blk3 (colBase L + 256 + 16384) := by
  refine (View.set_slice_whole main_v2_scv (Rect.unit (s := S3x8x32768) (k0_off3 L 256#32) S3x8x256.size (k0_off3_inb L 1))).trans ?_
  exact unit_set3 (off3h L) _
theorem X2h_pts (f : S3x8x32768.Idx → F .f32) :
    (((X2h L).view.loc (V d (cV L) (jV L)) ↦[(X2h L).view.set]{q} f : sProp 𝕄)) = (hX2.view.loc (V d (cV L) (jV L)) ↦[blk3 (colBase L + 256 + 16384)]{q} f) := by
  rw [X2h_set]
theorem C0l_set : (C0l L).view.set = blk3 (colBase L + 0) := by
  refine (View.set_slice_whole main_v3_0_scv (Rect.unit (s := S3x8x32768) (k0_off10 L 0#32) S3x8x256.size (k0_off10_inb L 0))).trans ?_
  exact unit_set3 (off10l L) _
theorem C0l_pts (f : S3x8x32768.Idx → F .f32) :
    (((C0l L).view.loc (V d (cV L) (jV L)) ↦[(C0l L).view.set]{q} f : sProp 𝕄)) = (hCS.view.loc (V d (cV L) (jV L)) ↦[blk3 (colBase L + 0)]{q} f) := by
  rw [C0l_set]
theorem C0h_set : (C0h L).view.set = blk3 (colBase L + 256) := by
  refine (View.set_slice_whole main_v3_0_scv (Rect.unit (s := S3x8x32768) (k0_off10 L 256#32) S3x8x256.size (k0_off10_inb L 1))).trans ?_
  exact unit_set3 (off10h L) _
theorem C0h_pts (f : S3x8x32768.Idx → F .f32) :
    (((C0h L).view.loc (V d (cV L) (jV L)) ↦[(C0h L).view.set]{q} f : sProp 𝕄)) = (hCS.view.loc (V d (cV L) (jV L)) ↦[blk3 (colBase L + 256)]{q} f) := by
  rw [C0h_set]
theorem C1l_set : (C1l L).view.set = blk3 (colBase L + 0 + 16384) := by
  refine (View.set_slice_whole main_v3_0_scv (Rect.unit (s := S3x8x32768) (k0_off3 L 0#32) S3x8x256.size (k0_off3_inb L 0))).trans ?_
  exact unit_set3 (off3l L) _
theorem C1l_pts (f : S3x8x32768.Idx → F .f32) :
    (((C1l L).view.loc (V d (cV L) (jV L)) ↦[(C1l L).view.set]{q} f : sProp 𝕄)) = (hCS.view.loc (V d (cV L) (jV L)) ↦[blk3 (colBase L + 0 + 16384)]{q} f) := by
  rw [C1l_set]
theorem C1h_set : (C1h L).view.set = blk3 (colBase L + 256 + 16384) := by
  refine (View.set_slice_whole main_v3_0_scv (Rect.unit (s := S3x8x32768) (k0_off3 L 256#32) S3x8x256.size (k0_off3_inb L 1))).trans ?_
  exact unit_set3 (off3h L) _
theorem C1h_pts (f : S3x8x32768.Idx → F .f32) :
    (((C1h L).view.loc (V d (cV L) (jV L)) ↦[(C1h L).view.set]{q} f : sProp 𝕄)) = (hCS.view.loc (V d (cV L) (jV L)) ↦[blk3 (colBase L + 256 + 16384)]{q} f) := by
  rw [C1h_set]
theorem T0l_set : (T0l L).view.set = blk2 (colBase L + 0) := by
  refine (View.set_slice_whole main_v3_1_scv (Rect.unit (s := S8x32768) (k0_off6 L 0#32) S8x256.size (k0_off6_inb L 0))).trans ?_
  exact unit_set2 (off6l L) _
theorem T0l_pts (f : S8x32768.Idx → BitVec 32) :
    (((T0l L).view.loc (V d (cV L) (jV L)) ↦[(T0l L).view.set]{q} f : sProp 𝕄)) = (hAS.view.loc (V d (cV L) (jV L)) ↦[blk2 (colBase L + 0)]{q} f) := by
  rw [T0l_set]
theorem T0h_set : (T0h L).view.set = blk2 (colBase L + 256) := by
  refine (View.set_slice_whole main_v3_1_scv (Rect.unit (s := S8x32768) (k0_off6 L 256#32) S8x256.size (k0_off6_inb L 1))).trans ?_
  exact unit_set2 (off6h L) _
theorem T0h_pts (f : S8x32768.Idx → BitVec 32) :
    (((T0h L).view.loc (V d (cV L) (jV L)) ↦[(T0h L).view.set]{q} f : sProp 𝕄)) = (hAS.view.loc (V d (cV L) (jV L)) ↦[blk2 (colBase L + 256)]{q} f) := by
  rw [T0h_set]
theorem T1l_set : (T1l L).view.set = blk2 (colBase L + 0 + 16384) := by
  refine (View.set_slice_whole main_v3_1_scv (Rect.unit (s := S8x32768) (k0_off7 L 0#32) S8x256.size (k0_off7_inb L 0))).trans ?_
  exact unit_set2 (off7l L) _
theorem T1l_pts (f : S8x32768.Idx → BitVec 32) :
    (((T1l L).view.loc (V d (cV L) (jV L)) ↦[(T1l L).view.set]{q} f : sProp 𝕄)) = (hAS.view.loc (V d (cV L) (jV L)) ↦[blk2 (colBase L + 0 + 16384)]{q} f) := by
  rw [T1l_set]
theorem T1h_set : (T1h L).view.set = blk2 (colBase L + 256 + 16384) := by
  refine (View.set_slice_whole main_v3_1_scv (Rect.unit (s := S8x32768) (k0_off7 L 256#32) S8x256.size (k0_off7_inb L 1))).trans ?_
  exact unit_set2 (off7h L) _
theorem T1h_pts (f : S8x32768.Idx → BitVec 32) :
    (((T1h L).view.loc (V d (cV L) (jV L)) ↦[(T1h L).view.set]{q} f : sProp 𝕄)) = (hAS.view.loc (V d (cV L) (jV L)) ↦[blk2 (colBase L + 256 + 16384)]{q} f) := by
  rw [T1h_set]
theorem Fml_set : (Fml L).view.set = blk3 (colBase L + 0) := by
  refine (View.set_slice_whole main_v3_2_scv (Rect.unit (s := S3x8x16384) (k0_off2 L 0#32) S3x8x256.size (k0_off2_inb L 0))).trans ?_
  exact unit_set3 (off2l L) _
theorem Fml_pts (f : S3x8x16384.Idx → F .f32) :
    (((Fml L).view.loc (V d (cV L) (jV L)) ↦[(Fml L).view.set]{q} f : sProp 𝕄)) = (hFM.view.loc (V d (cV L) (jV L)) ↦[blk3 (colBase L + 0)]{q} f) := by
  rw [Fml_set]
theorem Fmh_set : (Fmh L).view.set = blk3 (colBase L + 256) := by
  refine (View.set_slice_whole main_v3_2_scv (Rect.unit (s := S3x8x16384) (k0_off2 L 256#32) S3x8x256.size (k0_off2_inb L 1))).trans ?_
  exact unit_set3 (off2h L) _
theorem Fmh_pts (f : S3x8x16384.Idx → F .f32) :
    (((Fmh L).view.loc (V d (cV L) (jV L)) ↦[(Fmh L).view.set]{q} f : sProp 𝕄)) = (hFM.view.loc (V d (cV L) (jV L)) ↦[blk3 (colBase L + 256)]{q} f) := by
  rw [Fmh_set]
theorem Mkl_set : (Mkl L).view.set = blk2 (colBase L + 0) := by
  refine (View.set_slice_whole main_v3_3_scv (Rect.unit (s := S8x16384) (k0_off1 L 0#32) S8x256.size (k0_off1_inb L 0))).trans ?_
  exact unit_set2 (off1l L) _
theorem Mkl_pts (f : S8x16384.Idx → BitVec 32) :
    (((Mkl L).view.loc (V d (cV L) (jV L)) ↦[(Mkl L).view.set]{q} f : sProp 𝕄)) = (hMK.view.loc (V d (cV L) (jV L)) ↦[blk2 (colBase L + 0)]{q} f) := by
  rw [Mkl_set]
theorem Mkh_set : (Mkh L).view.set = blk2 (colBase L + 256) := by
  refine (View.set_slice_whole main_v3_3_scv (Rect.unit (s := S8x16384) (k0_off1 L 256#32) S8x256.size (k0_off1_inb L 1))).trans ?_
  exact unit_set2 (off1h L) _
theorem Mkh_pts (f : S8x16384.Idx → BitVec 32) :
    (((Mkh L).view.loc (V d (cV L) (jV L)) ↦[(Mkh L).view.set]{q} f : sProp 𝕄)) = (hMK.view.loc (V d (cV L) (jV L)) ↦[blk2 (colBase L + 256)]{q} f) := by
  rw [Mkh_set]
theorem sCl_set : sCl.view.set = half3 0 := by
  refine (View.set_slice_whole cc0_scratch0 (Rect.unit (s := S3x8x512) ![0, 0, 0] S3x8x256.size inb_S3x8x512_S3x8x256_0_0_0)).trans ?_
  exact unit_set3 rfl _
theorem sCl_pts (f : S3x8x512.Idx → F .f32) :
    ((sCl.view.loc (V d (cV L) (jV L)) ↦[sCl.view.set]{q} f : sProp 𝕄)) = (sC.view.loc (V d (cV L) (jV L)) ↦[half3 0]{q} f) := by
  rw [sCl_set]
theorem sCh_set : sCh.view.set = half3 256 := by
  refine (View.set_slice_whole cc0_scratch0 (Rect.unit (s := S3x8x512) ![0, 0, 256] S3x8x256.size inb_S3x8x512_S3x8x256_0_0_256)).trans ?_
  exact unit_set3 rfl _
theorem sCh_pts (f : S3x8x512.Idx → F .f32) :
    ((sCh.view.loc (V d (cV L) (jV L)) ↦[sCh.view.set]{q} f : sProp 𝕄)) = (sC.view.loc (V d (cV L) (jV L)) ↦[half3 256]{q} f) := by
  rw [sCh_set]
theorem sSl_set : sSl.view.set = half3 0 := by
  refine (View.set_slice_whole cc0_scratch1 (Rect.unit (s := S3x8x512) ![0, 0, 0] S3x8x256.size inb_S3x8x512_S3x8x256_0_0_0)).trans ?_
  exact unit_set3 rfl _
theorem sSl_pts (f : S3x8x512.Idx → F .f32) :
    ((sSl.view.loc (V d (cV L) (jV L)) ↦[sSl.view.set]{q} f : sProp 𝕄)) = (sS.view.loc (V d (cV L) (jV L)) ↦[half3 0]{q} f) := by
  rw [sSl_set]
theorem sSh_set : sSh.view.set = half3 256 := by
  refine (View.set_slice_whole cc0_scratch1 (Rect.unit (s := S3x8x512) ![0, 0, 256] S3x8x256.size inb_S3x8x512_S3x8x256_0_0_256)).trans ?_
  exact unit_set3 rfl _
theorem sSh_pts (f : S3x8x512.Idx → F .f32) :
    ((sSh.view.loc (V d (cV L) (jV L)) ↦[sSh.view.set]{q} f : sProp 𝕄)) = (sS.view.loc (V d (cV L) (jV L)) ↦[half3 256]{q} f) := by
  rw [sSh_set]
theorem sGl_set : sGl.view.set = half3 0 := by
  refine (View.set_slice_whole cc0_scratch3 (Rect.unit (s := S3x8x512) ![0, 0, 0] S3x8x256.size inb_S3x8x512_S3x8x256_0_0_0)).trans ?_
  exact unit_set3 rfl _
theorem sGl_pts (f : S3x8x512.Idx → F .f32) :
    ((sGl.view.loc (V d (cV L) (jV L)) ↦[sGl.view.set]{q} f : sProp 𝕄)) = (sG.view.loc (V d (cV L) (jV L)) ↦[half3 0]{q} f) := by
  rw [sGl_set]
theorem sGh_set : sGh.view.set = half3 256 := by
  refine (View.set_slice_whole cc0_scratch3 (Rect.unit (s := S3x8x512) ![0, 0, 256] S3x8x256.size inb_S3x8x512_S3x8x256_0_0_256)).trans ?_
  exact unit_set3 rfl _
theorem sGh_pts (f : S3x8x512.Idx → F .f32) :
    ((sGh.view.loc (V d (cV L) (jV L)) ↦[sGh.view.set]{q} f : sProp 𝕄)) = (sG.view.loc (V d (cV L) (jV L)) ↦[half3 256]{q} f) := by
  rw [sGh_set]
theorem sAl_set : sAl.view.set = half2 0 := by
  refine (View.set_slice_whole cc0_scratch2 (Rect.unit (s := S8x512) ![0, 0] S8x256.size inb_S8x512_S8x256_0_0)).trans ?_
  exact unit_set2 rfl _
theorem sAl_pts (f : S8x512.Idx → BitVec 32) :
    ((sAl.view.loc (V d (cV L) (jV L)) ↦[sAl.view.set]{q} f : sProp 𝕄)) = (sA.view.loc (V d (cV L) (jV L)) ↦[half2 0]{q} f) := by
  rw [sAl_set]
theorem sAh_set : sAh.view.set = half2 256 := by
  refine (View.set_slice_whole cc0_scratch2 (Rect.unit (s := S8x512) ![0, 256] S8x256.size inb_S8x512_S8x256_0_256)).trans ?_
  exact unit_set2 rfl _
theorem sAh_pts (f : S8x512.Idx → BitVec 32) :
    ((sAh.view.loc (V d (cV L) (jV L)) ↦[sAh.view.set]{q} f : sProp 𝕄)) = (sA.view.loc (V d (cV L) (jV L)) ↦[half2 256]{q} f) := by
  rw [sAh_set]
theorem sAtl_set : sAtl.view.set = half2 0 := by
  refine (View.set_slice_whole cc0_scratch6 (Rect.unit (s := S8x512) ![0, 0] S8x256.size inb_S8x512_S8x256_0_0)).trans ?_
  exact unit_set2 rfl _
theorem sAtl_pts (f : S8x512.Idx → BitVec 32) :
    ((sAtl.view.loc (V d (cV L) (jV L)) ↦[sAtl.view.set]{q} f : sProp 𝕄)) = (sAt.view.loc (V d (cV L) (jV L)) ↦[half2 0]{q} f) := by
  rw [sAtl_set]
theorem sAth_set : sAth.view.set = half2 256 := by
  refine (View.set_slice_whole cc0_scratch6 (Rect.unit (s := S8x512) ![0, 256] S8x256.size inb_S8x512_S8x256_0_256)).trans ?_
  exact unit_set2 rfl _
theorem sAth_pts (f : S8x512.Idx → BitVec 32) :
    ((sAth.view.loc (V d (cV L) (jV L)) ↦[sAth.view.set]{q} f : sProp 𝕄)) = (sAt.view.loc (V d (cV L) (jV L)) ↦[half2 256]{q} f) := by
  rw [sAth_set]
theorem sMkl_set : sMkl.view.set = half2 0 := by
  refine (View.set_slice_whole cc0_scratch7 (Rect.unit (s := S8x512) ![0, 0] S8x256.size inb_S8x512_S8x256_0_0)).trans ?_
  exact unit_set2 rfl _
theorem sMkl_pts (f : S8x512.Idx → BitVec 32) :
    ((sMkl.view.loc (V d (cV L) (jV L)) ↦[sMkl.view.set]{q} f : sProp 𝕄)) = (sMk.view.loc (V d (cV L) (jV L)) ↦[half2 0]{q} f) := by
  rw [sMkl_set]
theorem sMkh_set : sMkh.view.set = half2 256 := by
  refine (View.set_slice_whole cc0_scratch7 (Rect.unit (s := S8x512) ![0, 256] S8x256.size inb_S8x512_S8x256_0_256)).trans ?_
  exact unit_set2 rfl _
theorem sMkh_pts (f : S8x512.Idx → BitVec 32) :
    ((sMkh.view.loc (V d (cV L) (jV L)) ↦[sMkh.view.set]{q} f : sProp 𝕄)) = (sMk.view.loc (V d (cV L) (jV L)) ↦[half2 256]{q} f) := by
  rw [sMkh_set]

end Cert.Proof.Spin
-- ==== Proof.Land.lean ====
/-
  What each of the program's copies leaves where it lands: the fetched columns in the scratches, and the results' columns in
  the arrays.
-/
module

public import proofs.«01_k».proof.Proof.Pieces

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (L : grid0.Coords) (d : Dev nD) (q : PosShare TreeShare)
variable (X0 X1 : S3x8x16384.Idx → F .f32) (A : S8x16384.Idx → BitVec 32) (X2 : S3x8x32768.Idx → F .f32) (Tb : Vec F S8 .f32)

/-- A copy's landing, read through the two views' embeddings. -/
theorem landed_at {sp sp' : Space} {s : Shape} {e : EltTy} (D : Memref sig .scVector sp s e) (Sm : Memref sig .scVector sp' s e)
    (c : Fin τ.nSC) (j : Fin τ.nSub) (f0 G : D.view.ty.Contents (Elt F)) (fs : Sm.view.ty.Contents (Elt F))
    (hD : D.view.ty.elt = e) (hS : Sm.view.ty.elt = e)
    (h : ∀ k, cast (congrArg (Elt F) hD) (G (D.view.emb k)) = cast (congrArg (Elt F) hS) (fs (Sm.view.emb k))) :
    ((D.view.loc (V d c j) ↦[D.view.set]{q} D.view.writes (Elt F) f0 [⟨Rect.whole _, ReadAs.same.apply (Sm.view.read (Elt F) fs)⟩] : sProp 𝕄))
      = (D.view.loc (V d c j) ↦[D.view.set]{q} G) :=
  landed D Sm c j d q f0 G fs fun k => (View.read_apply _ _).trans ((h k).trans (View.read_apply _ _).symm)

/-! ## The fetches -/

theorem sAl_land (f0 : S8x512.Idx → BitVec 32) :
    ((sAl.view.loc (V d (cV L) (jV L)) ↦[sAl.view.set]{q} sAl.view.writes (Elt F) f0 [⟨Rect.whole _, ReadAs.same.apply ((Abl L).view.read (Elt F) A)⟩] : sProp 𝕄))
      = (sA.view.loc (V d (cV L) (jV L)) ↦[half2 0]{q} cols2 (colBase L) A) :=
  (landed_at d q sAl (Abl L) _ _ _ (cols2 (colBase L) A) (A) rfl rfl fun k => (cast_eq _ _).trans ((in2 A (.inl rfl) (colBase_le L) rfl _ (off1l L) _ k).trans (cast_eq _ _).symm)).trans (sAl_pts L d q _)
theorem sAh_land (f0 : S8x512.Idx → BitVec 32) :
    ((sAh.view.loc (V d (cV L) (jV L)) ↦[sAh.view.set]{q} sAh.view.writes (Elt F) f0 [⟨Rect.whole _, ReadAs.same.apply ((Abh L).view.read (Elt F) A)⟩] : sProp 𝕄))
      = (sA.view.loc (V d (cV L) (jV L)) ↦[half2 256]{q} cols2 (colBase L) A) :=
  (landed_at d q sAh (Abh L) _ _ _ (cols2 (colBase L) A) (A) rfl rfl fun k => (cast_eq _ _).trans ((in2 A (.inr rfl) (colBase_le L) rfl _ (off1h L) _ k).trans (cast_eq _ _).symm)).trans (sAh_pts L d q _)
theorem sCl_land (f0 : S3x8x512.Idx → F .f32) :
    ((sCl.view.loc (V d (cV L) (jV L)) ↦[sCl.view.set]{q} sCl.view.writes (Elt F) f0 [⟨Rect.whole _, ReadAs.same.apply ((X0l L).view.read (Elt F) X0)⟩] : sProp 𝕄))
      = (sC.view.loc (V d (cV L) (jV L)) ↦[half3 0]{q} cols3 (colBase L) X0) :=
  (landed_at d q sCl (X0l L) _ _ _ (cols3 (colBase L) X0) (X0) rfl rfl fun k => (cast_eq _ _).trans ((in3 X0 (.inl rfl) (colBase_le L) rfl _ (off2l L) _ k).trans (cast_eq _ _).symm)).trans (sCl_pts L d q _)
theorem sCh_land (f0 : S3x8x512.Idx → F .f32) :
    ((sCh.view.loc (V d (cV L) (jV L)) ↦[sCh.view.set]{q} sCh.view.writes (Elt F) f0 [⟨Rect.whole _, ReadAs.same.apply ((X0h L).view.read (Elt F) X0)⟩] : sProp 𝕄))
      = (sC.view.loc (V d (cV L) (jV L)) ↦[half3 256]{q} cols3 (colBase L) X0) :=
  (landed_at d q sCh (X0h L) _ _ _ (cols3 (colBase L) X0) (X0) rfl rfl fun k => (cast_eq _ _).trans ((in3 X0 (.inr rfl) (colBase_le L) rfl _ (off2h L) _ k).trans (cast_eq _ _).symm)).trans (sCh_pts L d q _)
theorem sSl_land (f0 : S3x8x512.Idx → F .f32) :
    ((sSl.view.loc (V d (cV L) (jV L)) ↦[sSl.view.set]{q} sSl.view.writes (Elt F) f0 [⟨Rect.whole _, ReadAs.same.apply ((X1l L).view.read (Elt F) X1)⟩] : sProp 𝕄))
      = (sS.view.loc (V d (cV L) (jV L)) ↦[half3 0]{q} cols3 (colBase L) X1) :=
  (landed_at d q sSl (X1l L) _ _ _ (cols3 (colBase L) X1) (X1) rfl rfl fun k => (cast_eq _ _).trans ((in3 X1 (.inl rfl) (colBase_le L) rfl _ (off2l L) _ k).trans (cast_eq _ _).symm)).trans (sSl_pts L d q _)
theorem sSh_land (f0 : S3x8x512.Idx → F .f32) :
    ((sSh.view.loc (V d (cV L) (jV L)) ↦[sSh.view.set]{q} sSh.view.writes (Elt F) f0 [⟨Rect.whole _, ReadAs.same.apply ((X1h L).view.read (Elt F) X1)⟩] : sProp 𝕄))
      = (sS.view.loc (V d (cV L) (jV L)) ↦[half3 256]{q} cols3 (colBase L) X1) :=
  (landed_at d q sSh (X1h L) _ _ _ (cols3 (colBase L) X1) (X1) rfl rfl fun k => (cast_eq _ _).trans ((in3 X1 (.inr rfl) (colBase_le L) rfl _ (off2h L) _ k).trans (cast_eq _ _).symm)).trans (sSh_pts L d q _)
theorem sGl_land (f0 : S3x8x512.Idx → F .f32) :
    ((sGl.view.loc (V d (cV L) (jV L)) ↦[sGl.view.set]{q} sGl.view.writes (Elt F) f0 [⟨Rect.whole _, ReadAs.same.apply ((X2l L).view.read (Elt F) X2)⟩] : sProp 𝕄))
      = (sG.view.loc (V d (cV L) (jV L)) ↦[half3 0]{q} cols3hi (colBase L) X2) :=
  (landed_at d q sGl (X2l L) _ _ _ (cols3hi (colBase L) X2) (X2) rfl rfl fun k => (cast_eq _ _).trans ((in3hi X2 (.inl rfl) (colBase_le L) rfl _ (off3l L) _ k).trans (cast_eq _ _).symm)).trans (sGl_pts L d q _)
theorem sGh_land (f0 : S3x8x512.Idx → F .f32) :
    ((sGh.view.loc (V d (cV L) (jV L)) ↦[sGh.view.set]{q} sGh.view.writes (Elt F) f0 [⟨Rect.whole _, ReadAs.same.apply ((X2h L).view.read (Elt F) X2)⟩] : sProp 𝕄))
      = (sG.view.loc (V d (cV L) (jV L)) ↦[half3 256]{q} cols3hi (colBase L) X2) :=
  (landed_at d q sGh (X2h L) _ _ _ (cols3hi (colBase L) X2) (X2) rfl rfl fun k => (cast_eq _ _).trans ((in3hi X2 (.inr rfl) (colBase_le L) rfl _ (off3h L) _ k).trans (cast_eq _ _).symm)).trans (sGh_pts L d q _)

/-! ## The results -/

theorem T0l_land (f0 : S8x32768.Idx → BitVec 32) :
    (((T0l L).view.loc (V d (cV L) (jV L)) ↦[(T0l L).view.set]{q} (T0l L).view.writes (Elt F) f0 [⟨Rect.whole _, ReadAs.same.apply (sAl.view.read (Elt F) (cols2 (colBase L) A))⟩] : sProp 𝕄))
      = (hAS.view.loc (V d (cV L) (jV L)) ↦[blk2 (colBase L + 0)]{q} asAll A) :=
  (landed_at d q (T0l L) sAl _ _ _ (asAll A) (cols2 (colBase L) A) rfl rfl fun k => (cast_eq _ _).trans ((out_as_lo A (.inl rfl) (colBase_le L) rfl _ (off6l L) _ k).trans (cast_eq _ _).symm)).trans (T0l_pts L d q _)
theorem T0h_land (f0 : S8x32768.Idx → BitVec 32) :
    (((T0h L).view.loc (V d (cV L) (jV L)) ↦[(T0h L).view.set]{q} (T0h L).view.writes (Elt F) f0 [⟨Rect.whole _, ReadAs.same.apply (sAh.view.read (Elt F) (cols2 (colBase L) A))⟩] : sProp 𝕄))
      = (hAS.view.loc (V d (cV L) (jV L)) ↦[blk2 (colBase L + 256)]{q} asAll A) :=
  (landed_at d q (T0h L) sAh _ _ _ (asAll A) (cols2 (colBase L) A) rfl rfl fun k => (cast_eq _ _).trans ((out_as_lo A (.inr rfl) (colBase_le L) rfl _ (off6h L) _ k).trans (cast_eq _ _).symm)).trans (T0h_pts L d q _)
theorem T1l_land (f0 : S8x32768.Idx → BitVec 32) :
    (((T1l L).view.loc (V d (cV L) (jV L)) ↦[(T1l L).view.set]{q} (T1l L).view.writes (Elt F) f0 [⟨Rect.whole _, ReadAs.same.apply (sAtl.view.read (Elt F) (shiftsOf (cols2 (colBase L) A)))⟩] : sProp 𝕄))
      = (hAS.view.loc (V d (cV L) (jV L)) ↦[blk2 (colBase L + 0 + 16384)]{q} asAll A) :=
  (landed_at d q (T1l L) sAtl _ _ _ (asAll A) (shiftsOf (cols2 (colBase L) A)) rfl rfl fun k => (cast_eq _ _).trans ((out_as_hi A (.inl rfl) (colBase_le L) rfl _ (off7l L) _ k).trans (cast_eq _ _).symm)).trans (T1l_pts L d q _)
theorem T1h_land (f0 : S8x32768.Idx → BitVec 32) :
    (((T1h L).view.loc (V d (cV L) (jV L)) ↦[(T1h L).view.set]{q} (T1h L).view.writes (Elt F) f0 [⟨Rect.whole _, ReadAs.same.apply (sAth.view.read (Elt F) (shiftsOf (cols2 (colBase L) A)))⟩] : sProp 𝕄))
      = (hAS.view.loc (V d (cV L) (jV L)) ↦[blk2 (colBase L + 256 + 16384)]{q} asAll A) :=
  (landed_at d q (T1h L) sAth _ _ _ (asAll A) (shiftsOf (cols2 (colBase L) A)) rfl rfl fun k => (cast_eq _ _).trans ((out_as_hi A (.inr rfl) (colBase_le L) rfl _ (off7h L) _ k).trans (cast_eq _ _).symm)).trans (T1h_pts L d q _)
theorem Mkl_land (f0 : S8x16384.Idx → BitVec 32) :
    (((Mkl L).view.loc (V d (cV L) (jV L)) ↦[(Mkl L).view.set]{q} (Mkl L).view.writes (Elt F) f0 [⟨Rect.whole _, ReadAs.same.apply (sMkl.view.read (Elt F) (wordsOf Tb (cols2 (colBase L) A)))⟩] : sProp 𝕄))
      = (hMK.view.loc (V d (cV L) (jV L)) ↦[blk2 (colBase L + 0)]{q} mkAll A Tb) :=
  (landed_at d q (Mkl L) sMkl _ _ _ (mkAll A Tb) (wordsOf Tb (cols2 (colBase L) A)) rfl rfl fun k => (cast_eq _ _).trans ((out_mk A Tb (.inl rfl) (colBase_le L) rfl _ (off1l L) _ k).trans (cast_eq _ _).symm)).trans (Mkl_pts L d q _)
theorem Mkh_land (f0 : S8x16384.Idx → BitVec 32) :
    (((Mkh L).view.loc (V d (cV L) (jV L)) ↦[(Mkh L).view.set]{q} (Mkh L).view.writes (Elt F) f0 [⟨Rect.whole _, ReadAs.same.apply (sMkh.view.read (Elt F) (wordsOf Tb (cols2 (colBase L) A)))⟩] : sProp 𝕄))
      = (hMK.view.loc (V d (cV L) (jV L)) ↦[blk2 (colBase L + 256)]{q} mkAll A Tb) :=
  (landed_at d q (Mkh L) sMkh _ _ _ (mkAll A Tb) (wordsOf Tb (cols2 (colBase L) A)) rfl rfl fun k => (cast_eq _ _).trans ((out_mk A Tb (.inr rfl) (colBase_le L) rfl _ (off1h L) _ k).trans (cast_eq _ _).symm)).trans (Mkh_pts L d q _)
theorem C0l_land (f0 : S3x8x32768.Idx → F .f32) :
    (((C0l L).view.loc (V d (cV L) (jV L)) ↦[(C0l L).view.set]{q} (C0l L).view.writes (Elt F) f0 [⟨Rect.whole _, ReadAs.same.apply (sCl.view.read (Elt F) (cols3 (colBase L) X0))⟩] : sProp 𝕄))
      = (hCS.view.loc (V d (cV L) (jV L)) ↦[blk3 (colBase L + 0)]{q} csAll X0 X1 A Tb) :=
  (landed_at d q (C0l L) sCl _ _ _ (csAll X0 X1 A Tb) (cols3 (colBase L) X0) rfl rfl fun k => (cast_eq _ _).trans ((out_cs_lo X0 X1 A Tb (.inl rfl) (colBase_le L) rfl _ (off10l L) _ k).trans (cast_eq _ _).symm)).trans (C0l_pts L d q _)
theorem C0h_land (f0 : S3x8x32768.Idx → F .f32) :
    (((C0h L).view.loc (V d (cV L) (jV L)) ↦[(C0h L).view.set]{q} (C0h L).view.writes (Elt F) f0 [⟨Rect.whole _, ReadAs.same.apply (sCh.view.read (Elt F) (cols3 (colBase L) X0))⟩] : sProp 𝕄))
      = (hCS.view.loc (V d (cV L) (jV L)) ↦[blk3 (colBase L + 256)]{q} csAll X0 X1 A Tb) :=
  (landed_at d q (C0h L) sCh _ _ _ (csAll X0 X1 A Tb) (cols3 (colBase L) X0) rfl rfl fun k => (cast_eq _ _).trans ((out_cs_lo X0 X1 A Tb (.inr rfl) (colBase_le L) rfl _ (off10h L) _ k).trans (cast_eq _ _).symm)).trans (C0h_pts L d q _)
theorem C1l_land (f0 : S3x8x32768.Idx → F .f32) :
    (((C1l L).view.loc (V d (cV L) (jV L)) ↦[(C1l L).view.set]{q} (C1l L).view.writes (Elt F) f0 [⟨Rect.whole _, ReadAs.same.apply (sSl.view.read (Elt F) (movedOf (cols3 (colBase L) X0) (cols3 (colBase L) X1) (masksOf Tb (cols2 (colBase L) A))))⟩] : sProp 𝕄))
      = (hCS.view.loc (V d (cV L) (jV L)) ↦[blk3 (colBase L + 0 + 16384)]{q} csAll X0 X1 A Tb) :=
  (landed_at d q (C1l L) sSl _ _ _ (csAll X0 X1 A Tb) (movedOf (cols3 (colBase L) X0) (cols3 (colBase L) X1) (masksOf Tb (cols2 (colBase L) A))) rfl rfl fun k => (cast_eq _ _).trans ((out_cs_hi X0 X1 A Tb (.inl rfl) (colBase_le L) rfl _ (off3l L) _ k).trans (cast_eq _ _).symm)).trans (C1l_pts L d q _)
theorem C1h_land (f0 : S3x8x32768.Idx → F .f32) :
    (((C1h L).view.loc (V d (cV L) (jV L)) ↦[(C1h L).view.set]{q} (C1h L).view.writes (Elt F) f0 [⟨Rect.whole _, ReadAs.same.apply (sSh.view.read (Elt F) (movedOf (cols3 (colBase L) X0) (cols3 (colBase L) X1) (masksOf Tb (cols2 (colBase L) A))))⟩] : sProp 𝕄))
      = (hCS.view.loc (V d (cV L) (jV L)) ↦[blk3 (colBase L + 256 + 16384)]{q} csAll X0 X1 A Tb) :=
  (landed_at d q (C1h L) sSh _ _ _ (csAll X0 X1 A Tb) (movedOf (cols3 (colBase L) X0) (cols3 (colBase L) X1) (masksOf Tb (cols2 (colBase L) A))) rfl rfl fun k => (cast_eq _ _).trans ((out_cs_hi X0 X1 A Tb (.inr rfl) (colBase_le L) rfl _ (off3h L) _ k).trans (cast_eq _ _).symm)).trans (C1h_pts L d q _)
theorem Fml_land (f0 : S3x8x16384.Idx → F .f32) :
    (((Fml L).view.loc (V d (cV L) (jV L)) ↦[(Fml L).view.set]{q} (Fml L).view.writes (Elt F) f0 [⟨Rect.whole _, ReadAs.same.apply (sGl.view.read (Elt F) (scaledOf (cols3hi (colBase L) X2) (masksOf Tb (cols2 (colBase L) A))))⟩] : sProp 𝕄))
      = (hFM.view.loc (V d (cV L) (jV L)) ↦[blk3 (colBase L + 0)]{q} fmAll A X2 Tb) :=
  (landed_at d q (Fml L) sGl _ _ _ (fmAll A X2 Tb) (scaledOf (cols3hi (colBase L) X2) (masksOf Tb (cols2 (colBase L) A))) rfl rfl fun k => (cast_eq _ _).trans ((out_fm A X2 Tb (.inl rfl) (colBase_le L) rfl _ (off2l L) _ k).trans (cast_eq _ _).symm)).trans (Fml_pts L d q _)
theorem Fmh_land (f0 : S3x8x16384.Idx → F .f32) :
    (((Fmh L).view.loc (V d (cV L) (jV L)) ↦[(Fmh L).view.set]{q} (Fmh L).view.writes (Elt F) f0 [⟨Rect.whole _, ReadAs.same.apply (sGh.view.read (Elt F) (scaledOf (cols3hi (colBase L) X2) (masksOf Tb (cols2 (colBase L) A))))⟩] : sProp 𝕄))
      = (hFM.view.loc (V d (cV L) (jV L)) ↦[blk3 (colBase L + 256)]{q} fmAll A X2 Tb) :=
  (landed_at d q (Fmh L) sGh _ _ _ (fmAll A X2 Tb) (scaledOf (cols3hi (colBase L) X2) (masksOf Tb (cols2 (colBase L) A))) rfl rfl fun k => (cast_eq _ _).trans ((out_fm A X2 Tb (.inr rfl) (colBase_le L) rfl _ (off2h L) _ k).trans (cast_eq _ _).symm)).trans (Fmh_pts L d q _)

end Cert.Proof.Spin
-- ==== Proof.Own.lean ====
/-
  A tile's own semaphores and scratches, one by one beside the rest of what it owns.
-/
module

public import proofs.«01_k».proof.Proof.Land

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (L : grid0.Coords) (d : Dev nD)

/-- A cell of the tile, by its semaphore. -/
abbrev cell (s : DmaSem sig) : GSem nD τ sig := (V d (cV L) (jV L), .dma s)

theorem cell_ne {s t : DmaSem sig} (h : s ≠ t) : cell L d s ≠ cell L d t :=
  fun e => h (SemLoc.dma.inj (congrArg Prod.snd e))

theorem scr_ne {b b' : Ref sig .scVector} (h : b ≠ b') : (Proc.scVector (cV L) (jV L)).devRef b ≠ (Proc.scVector (cV L) (jV L)).devRef b' :=
  fun e => h (Proc.devRef_injective _ e)

/-- The cells left when the kernel's ten are taken. -/
def cellsLeft : Finset (GSem nD τ sig) := ((((((((((ownCells (V d (cV L) (jV L))).erase (cell L d cc0_scoped0.sem)).erase (cell L d cc0_scratch8.sem)).erase (cell L d cc0_scratch9.sem)).erase (cell L d cc0_scratch10.sem)).erase (cell L d cc0_scratch11.sem)).erase (cell L d cc0_scratch12.sem)).erase (cell L d cc0_scratch13.sem)).erase (cell L d cc0_scratch14.sem)).erase (cell L d cc0_scratch15.sem)).erase (cell L d cc0_scratch16.sem)

theorem ownSems0_V :
    (ownSems0 (V d (cV L) (jV L)) : sProp 𝕄)
      = iprop(semVal (cell L d cc0_scoped0.sem) 0 ∗ semVal (cell L d cc0_scratch8.sem) 0 ∗ semVal (cell L d cc0_scratch9.sem) 0 ∗ semVal (cell L d cc0_scratch10.sem) 0 ∗ semVal (cell L d cc0_scratch11.sem) 0 ∗ semVal (cell L d cc0_scratch12.sem) 0 ∗ semVal (cell L d cc0_scratch13.sem) 0 ∗ semVal (cell L d cc0_scratch14.sem) 0 ∗ semVal (cell L d cc0_scratch15.sem) 0 ∗ semVal (cell L d cc0_scratch16.sem) 0 ∗ bigSep (cellsLeft L d) fun g => semVal g 0) := by
  unfold SparseCore.Cfg.ownSems0 cellsLeft
  rw [SparseCore.bigSep_erase' ((mem_ownCells (g := cell L d cc0_scoped0.sem)).mpr ⟨rfl, by show (SemLoc.dma cc0_scoped0.sem : SemLoc sig).isScoped .scVector = true; decide⟩),
    SparseCore.bigSep_erase' (Finset.mem_erase.mpr ⟨cell_ne L d (by decide), (mem_ownCells (g := cell L d cc0_scratch8.sem)).mpr ⟨rfl, by show (SemLoc.dma cc0_scratch8.sem : SemLoc sig).isScoped .scVector = true; decide⟩⟩),
    SparseCore.bigSep_erase' (Finset.mem_erase.mpr ⟨cell_ne L d (by decide), Finset.mem_erase.mpr ⟨cell_ne L d (by decide), (mem_ownCells (g := cell L d cc0_scratch9.sem)).mpr ⟨rfl, by show (SemLoc.dma cc0_scratch9.sem : SemLoc sig).isScoped .scVector = true; decide⟩⟩⟩),
    SparseCore.bigSep_erase' (Finset.mem_erase.mpr ⟨cell_ne L d (by decide), Finset.mem_erase.mpr ⟨cell_ne L d (by decide), Finset.mem_erase.mpr ⟨cell_ne L d (by decide), (mem_ownCells (g := cell L d cc0_scratch10.sem)).mpr ⟨rfl, by show (SemLoc.dma cc0_scratch10.sem : SemLoc sig).isScoped .scVector = true; decide⟩⟩⟩⟩),
    SparseCore.bigSep_erase' (Finset.mem_erase.mpr ⟨cell_ne L d (by decide), Finset.mem_erase.mpr ⟨cell_ne L d (by decide), Finset.mem_erase.mpr ⟨cell_ne L d (by decide), Finset.mem_erase.mpr ⟨cell_ne L d (by decide), (mem_ownCells (g := cell L d cc0_scratch11.sem)).mpr ⟨rfl, by show (SemLoc.dma cc0_scratch11.sem : SemLoc sig).isScoped .scVector = true; decide⟩⟩⟩⟩⟩),
    SparseCore.bigSep_erase' (Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), (mem_ownCells (g := cell L d cc0_scratch12.sem)).mpr ⟨rfl, by show (SemLoc.dma cc0_scratch12.sem : SemLoc sig).isScoped .scVector = true; decide⟩⟩⟩⟩⟩⟩),
    SparseCore.bigSep_erase' (Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), (mem_ownCells (g := cell L d cc0_scratch13.sem)).mpr ⟨rfl, by show (SemLoc.dma cc0_scratch13.sem : SemLoc sig).isScoped .scVector = true; decide⟩⟩⟩⟩⟩⟩⟩),
    SparseCore.bigSep_erase' (Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), (mem_ownCells (g := cell L d cc0_scratch14.sem)).mpr ⟨rfl, by show (SemLoc.dma cc0_scratch14.sem : SemLoc sig).isScoped .scVector = true; decide⟩⟩⟩⟩⟩⟩⟩⟩),
    SparseCore.bigSep_erase' (Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), (mem_ownCells (g := cell L d cc0_scratch15.sem)).mpr ⟨rfl, by show (SemLoc.dma cc0_scratch15.sem : SemLoc sig).isScoped .scVector = true; decide⟩⟩⟩⟩⟩⟩⟩⟩⟩),
    SparseCore.bigSep_erase' (Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), Finset.mem_erase.mpr ⟨cell_ne L d (by decide), (mem_ownCells (g := cell L d cc0_scratch16.sem)).mpr ⟨rfl, by show (SemLoc.dma cc0_scratch16.sem : SemLoc sig).isScoped .scVector = true; decide⟩⟩⟩⟩⟩⟩⟩⟩⟩⟩)]

/-- The buffers left when the kernel's eight are taken. -/
def bufsLeft : Finset (DevRef τ sig) := ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f) ∗ (∃ f, (V d (cV L) (jV L)).loc cc0_scratch7 ↦{fullShare} f)
        ∗ bigSep (bufsLeft L) fun b => iprop(∃ f, ((d, b) : Loc nD τ sig) ↦{fullShare} f)) := by
  unfold SparseCore.Cfg.ownBufs bufsLeft
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨scr_ne L (by decide), SparseCore.Cfg.mem_ownRefs_of_owner (p := Proc.scVector (cV L) (jV L)) (b := (Proc.scVector (cV L) (jV L)).devRef cc0_scratch1) rfl⟩),
    SparseCore.bigSep_erase' (Finset.mem_erase.mpr ⟨scr_ne L (by decide), Finset.mem_erase.mpr ⟨scr_ne L (by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨scr_ne L (by decide), Finset.mem_erase.mpr ⟨scr_ne L (by decide), Finset.mem_erase.mpr ⟨scr_ne L (by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨scr_ne L (by decide), Finset.mem_erase.mpr ⟨scr_ne L (by decide), Finset.mem_erase.mpr ⟨scr_ne L (by decide), Finset.mem_erase.mpr ⟨scr_ne L (by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨scr_ne L (by decide), Finset.mem_erase.mpr ⟨scr_ne L (by decide), Finset.mem_erase.mpr ⟨scr_ne L (by decide), Finset.mem_erase.mpr ⟨scr_ne L (by decide), Finset.mem_erase.mpr ⟨scr_ne L (by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨scr_ne L (by decide), Finset.mem_erase.mpr ⟨scr_ne L (by decide), Finset.mem_erase.mpr ⟨scr_ne L (by decide), Finset.mem_erase.mpr ⟨scr_ne L (by decide), Finset.mem_erase.mpr ⟨scr_ne L (by decide), Finset.mem_erase.mpr ⟨scr_ne L (by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨scr_ne L (by decide), Finset.mem_erase.mpr ⟨scr_ne L (by decide), Finset.mem_erase.mpr ⟨scr_ne L (by decide), Finset.mem_erase.mpr ⟨scr_ne L (by decide), Finset.mem_erase.mpr ⟨scr_ne L (by decide), Finset.mem_erase.mpr ⟨scr_ne L (by decide), Finset.mem_erase.mpr ⟨scr_ne L (by decide), SparseCore.Cfg.mem_ownRefs_of_owner (p := Proc.scVector (cV L) (jV L)) (b := (Proc.scVector (cV L) (jV L)).devRef cc0_scratch7) rfl⟩⟩⟩⟩⟩⟩⟩)]

/-! ## The halves of a scratch -/

theorem half2_compl : (Finset.univ : Finset S8x512.Idx) \ half2 0 = half2 256 := by
  ext x
  have h1 : (x 1).val < 512 := (x 1).isLt
  simp only [Finset.mem_sdiff, Finset.mem_univ, Finset.mem_filter, true_and]
  omega

theorem half3_compl : (Finset.univ : Finset S3x8x512.Idx) \ half3 0 = half3 256 := by
  ext x
  have h2 : (x 2).val < 512 := (x 2).isLt
  simp only [Finset.mem_sdiff, Finset.mem_univ, Finset.mem_filter, true_and]
  omega

theorem sC_split (f : S3x8x512.Idx → F .f32) :
    ((V d (cV L) (jV L)).loc cc0_scratch0 ↦{fullShare} f : sProp 𝕄)
      ⊢ iprop((sC.view.loc (V d (cV L) (jV L)) ↦[half3 0]{fullShare} f) ∗ (sC.view.loc (V d (cV L) (jV L)) ↦[half3 256]{fullShare} f)) := by
  refine (pointsTo_split_subset (ℓ := sC.view.loc (V d (cV L) (jV L))) (Finset.subset_univ (half3 0))).1.trans ?_
  exact Entails.of_eq (by rw [← half3_compl])
theorem sC_join (f g : S3x8x512.Idx → F .f32) :
    iprop((sC.view.loc (V d (cV L) (jV L)) ↦[half3 0]{fullShare} f) ∗ (sC.view.loc (V d (cV L) (jV L)) ↦[half3 256]{fullShare} g))
      ⊢ (iprop(∃ h, (V d (cV L) (jV L)).loc cc0_scratch0 ↦{fullShare} h) : sProp 𝕄) := by
  rw [← half3_compl]
  refine (pointsTo_join_subset (ℓ := sC.view.loc (V d (cV L) (jV L))) (Finset.subset_univ (half3 0))).trans ?_
  iintro H
  iexists _
  iexact H
theorem sS_split (f : S3x8x512.Idx → F .f32) :
    ((V d (cV L) (jV L)).loc cc0_scratch1 ↦{fullShare} f : sProp 𝕄)
      ⊢ iprop((sS.view.loc (V d (cV L) (jV L)) ↦[half3 0]{fullShare} f) ∗ (sS.view.loc (V d (cV L) (jV L)) ↦[half3 256]{fullShare} f)) := by
  refine (pointsTo_split_subset (ℓ := sS.view.loc (V d (cV L) (jV L))) (Finset.subset_univ (half3 0))).1.trans ?_
  exact Entails.of_eq (by rw [← half3_compl])
theorem sS_join (f g : S3x8x512.Idx → F .f32) :
    iprop((sS.view.loc (V d (cV L) (jV L)) ↦[half3 0]{fullShare} f) ∗ (sS.view.loc (V d (cV L) (jV L)) ↦[half3 256]{fullShare} g))
      ⊢ (iprop(∃ h, (V d (cV L) (jV L)).loc cc0_scratch1 ↦{fullShare} h) : sProp 𝕄) := by
  rw [← half3_compl]
  refine (pointsTo_join_subset (ℓ := sS.view.loc (V d (cV L) (jV L))) (Finset.subset_univ (half3 0))).trans ?_
  iintro H
  iexists _
  iexact H
theorem sG_split (f : S3x8x512.Idx → F .f32) :
    ((V d (cV L) (jV L)).loc cc0_scratch3 ↦{fullShare} f : sProp 𝕄)
      ⊢ iprop((sG.view.loc (V d (cV L) (jV L)) ↦[half3 0]{fullShare} f) ∗ (sG.view.loc (V d (cV L) (jV L)) ↦[half3 256]{fullShare} f)) := by
  refine (pointsTo_split_subset (ℓ := sG.view.loc (V d (cV L) (jV L))) (Finset.subset_univ (half3 0))).1.trans ?_
  exact Entails.of_eq (by rw [← half3_compl])
theorem sG_join (f g : S3x8x512.Idx → F .f32) :
    iprop((sG.view.loc (V d (cV L) (jV L)) ↦[half3 0]{fullShare} f) ∗ (sG.view.loc (V d (cV L) (jV L)) ↦[half3 256]{fullShare} g))
      ⊢ (iprop(∃ h, (V d (cV L) (jV L)).loc cc0_scratch3 ↦{fullShare} h) : sProp 𝕄) := by
  rw [← half3_compl]
  refine (pointsTo_join_subset (ℓ := sG.view.loc (V d (cV L) (jV L))) (Finset.subset_univ (half3 0))).trans ?_
  iintro H
  iexists _
  iexact H
theorem sA_split (f : S8x512.Idx → BitVec 32) :
    ((V d (cV L) (jV L)).loc cc0_scratch2 ↦{fullShare} f : sProp 𝕄)
      ⊢ iprop((sA.view.loc (V d (cV L) (jV L)) ↦[half2 0]{fullShare} f) ∗ (sA.view.loc (V d (cV L) (jV L)) ↦[half2 256]{fullShare} f)) := by
  refine (pointsTo_split_subset (ℓ := sA.view.loc (V d (cV L) (jV L))) (Finset.subset_univ (half2 0))).1.trans ?_
  exact Entails.of_eq (by rw [← half2_compl])
theorem sA_join (f g : S8x512.Idx → BitVec 32) :
    iprop((sA.view.loc (V d (cV L) (jV L)) ↦[half2 0]{fullShare} f) ∗ (sA.view.loc (V d (cV L) (jV L)) ↦[half2 256]{fullShare} g))
      ⊢ (iprop(∃ h, (V d (cV L) (jV L)).loc cc0_scratch2 ↦{fullShare} h) : sProp 𝕄) := by
  rw [← half2_compl]
  refine (pointsTo_join_subset (ℓ := sA.view.loc (V d (cV L) (jV L))) (Finset.subset_univ (half2 0))).trans ?_
  iintro H
  iexists _
  iexact H
theorem sVm_split (f : S8x512.Idx → F .f32) :
    ((V d (cV L) (jV L)).loc cc0_scratch5 ↦{fullShare} f : sProp 𝕄)
      ⊢ iprop((sVm.view.loc (V d (cV L) (jV L)) ↦[half2 0]{fullShare} f) ∗ (sVm.view.loc (V d (cV L) (jV L)) ↦[half2 256]{fullShare} f)) := by
  refine (pointsTo_split_subset (ℓ := sVm.view.loc (V d (cV L) (jV L))) (Finset.subset_univ (half2 0))).1.trans ?_
  exact Entails.of_eq (by rw [← half2_compl])
theorem sVm_join (f g : S8x512.Idx → F .f32) :
    iprop((sVm.view.loc (V d (cV L) (jV L)) ↦[half2 0]{fullShare} f) ∗ (sVm.view.loc (V d (cV L) (jV L)) ↦[half2 256]{fullShare} g))
      ⊢ (iprop(∃ h, (V d (cV L) (jV L)).loc cc0_scratch5 ↦{fullShare} h) : sProp 𝕄) := by
  rw [← half2_compl]
  refine (pointsTo_join_subset (ℓ := sVm.view.loc (V d (cV L) (jV L))) (Finset.subset_univ (half2 0))).trans ?_
  iintro H
  iexists _
  iexact H
theorem sAt_split (f : S8x512.Idx → BitVec 32) :
    ((V d (cV L) (jV L)).loc cc0_scratch6 ↦{fullShare} f : sProp 𝕄)
      ⊢ iprop((sAt.view.loc (V d (cV L) (jV L)) ↦[half2 0]{fullShare} f) ∗ (sAt.view.loc (V d (cV L) (jV L)) ↦[half2 256]{fullShare} f)) := by
  refine (pointsTo_split_subset (ℓ := sAt.view.loc (V d (cV L) (jV L))) (Finset.subset_univ (half2 0))).1.trans ?_
  exact Entails.of_eq (by rw [← half2_compl])
theorem sAt_join (f g : S8x512.Idx → BitVec 32) :
    iprop((sAt.view.loc (V d (cV L) (jV L)) ↦[half2 0]{fullShare} f) ∗ (sAt.view.loc (V d (cV L) (jV L)) ↦[half2 256]{fullShare} g))
      ⊢ (iprop(∃ h, (V d (cV L) (jV L)).loc cc0_scratch6 ↦{fullShare} h) : sProp 𝕄) := by
  rw [← half2_compl]
  refine (pointsTo_join_subset (ℓ := sAt.view.loc (V d (cV L) (jV L))) (Finset.subset_univ (half2 0))).trans ?_
  iintro H
  iexists _
  iexact H
theorem sMk_split (f : S8x512.Idx → BitVec 32) :
    ((V d (cV L) (jV L)).loc cc0_scratch7 ↦{fullShare} f : sProp 𝕄)
      ⊢ iprop((sMk.view.loc (V d (cV L) (jV L)) ↦[half2 0]{fullShare} f) ∗ (sMk.view.loc (V d (cV L) (jV L)) ↦[half2 256]{fullShare} f)) := by
  refine (pointsTo_split_subset (ℓ := sMk.view.loc (V d (cV L) (jV L))) (Finset.subset_univ (half2 0))).1.trans ?_
  exact Entails.of_eq (by rw [← half2_compl])
theorem sMk_join (f g : S8x512.Idx → BitVec 32) :
    iprop((sMk.view.loc (V d (cV L) (jV L)) ↦[half2 0]{fullShare} f) ∗ (sMk.view.loc (V d (cV L) (jV L)) ↦[half2 256]{fullShare} g))
      ⊢ (iprop(∃ h, (V d (cV L) (jV L)).loc cc0_scratch7 ↦{fullShare} h) : sProp 𝕄) := by
  rw [← half2_compl]
  refine (pointsTo_join_subset (ℓ := sMk.view.loc (V d (cV L) (jV L))) (Finset.subset_univ (half2 0))).trans ?_
  iintro H
  iexists _
  iexact H

end Cert.Proof.Spin
-- ==== Proof.TypeLoop.lean ====
/-
  The loop over a half of the tile's atom types: each trip reads sixteen types, looks their masks up in the table, and
  stores the masks, the shifted types and the mask words. Written once for any offset of the half; the program's two
  loops are its instances.
-/
module

public import proofs.«01_k».proof.Proof.Values

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## One lane's values -/

/-- A lane's two spellings: the row put back in front of the lane is the lane of the stored row. -/
theorem cons_lane (x : S1x16.Idx) : (Fin.cons (⟨0, Nat.one_pos⟩ : Fin 1) (fun a : Fin 1 => x a.succ) : S1x16.Idx) = x := by
  funext a
  refine Fin.cases ?_ (fun b => rfl) a
  have h : (x 0).val < 1 := (x 0).isLt
  exact Fin.ext (show 0 = (x 0).val by omega)

theorem cast_row {α : Type} (v : S1x16.Idx → α) (x : S1x16.Idx) :
    shapeCast S16 v shapeCasts_S1x16_S16 (fun a => x a.succ) = v x := by
  refine (shapeCast_dropUnit_apply ![16] v shapeCasts_S1x16_S16 (fun a => x a.succ)).trans ?_
  exact congrArg v (cons_lane x)

theorem cast_lane {α : Type} (v : S16.Idx → α) (x : S1x16.Idx) :
    shapeCast S1x16 v shapeCasts_S16_S1x16 x = v (fun a => x a.succ) :=
  shapeCast_addUnit_apply ![16] v shapeCasts_S16_S1x16 x

/-- The lookup reads the table at the type. -/
theorem lookup_lane (Tb : Vec F S8 .f32) (v : IVec S16 32) (h : ∀ a x, ((![v] : Fin 1 → IVec S16 32) a x).toNat < S8.size a) (j : S16.Idx) :
    loadIdx (F := F) (e := .f32) Tb ![v] h j = lookMask Tb (v j) := by
  unfold loadIdx lookMask
  refine congrArg Tb ?_
  funext a
  have ha : a = 0 := Fin.eq_zero a
  subst ha
  have hj : (v j).toNat < 8 := h 0 j
  refine Fin.ext ?_
  show (v j).toNat = (v j).toNat % 8
  omega

/-! ## One trip -/

variable (d : Dev nD) (L : grid0.Coords)

/-- One trip's memory operations, at the offsets of its sixteen lanes. -/
def typeStep (off off' : Fin 2 → ℕ) (inb : ∀ a, off a + S1x16.size a ≤ S8x512.size a) (inb' : ∀ a, off' a + S1x16.size a ≤ S8x512.size a) :
    Prog (TpuEff nD τ sig (Elt F) Λ₀ (.scVector (cV L) (jV L))) Unit :=
  .op (.load sA (Rect.unit (s := S8x512) off S1x16.size inb).toLoadRect (View.loadsAt_vmem h_S1x16)) fun a =>
  .op (.assume (k0_chk1 (shapeCast S16 a shapeCasts_S1x16_S16)) (k0_chk1.dec _)) fun hw =>
  (SparseCore.vectorLoadIdx sTab ![shapeCast S16 a shapeCasts_S1x16_S16] (k0_idx1_inb _ hw.down) (View.loads_vmem h_S8)) >>= fun v =>
  .op (.load sVm (Rect.unit (s := S8x512) off' S1x16.size inb').toLoadRect (View.loadsAt_vmem h_S1x16)) fun _ =>
  .op (.store sVm (Rect.unit (s := S8x512) off' S1x16.size inb') (shapeCast S1x16 v shapeCasts_S16_S1x16) Finset.univ (View.stores_vmem_bits_univ h_S1x16 rfl) (.inl rfl)) fun _ =>
  .op (.load sAt (Rect.unit (s := S8x512) off' S1x16.size inb').toLoadRect (View.loadsAt_vmem h_S1x16)) fun _ =>
  .op (.store sAt (Rect.unit (s := S8x512) off' S1x16.size inb') (shapeCast S1x16 (k0_pay1 (F := F) (shapeCast S16 a shapeCasts_S1x16_S16)) shapeCasts_S16_S1x16) Finset.univ (View.stores_vmem_bits_univ h_S1x16 rfl) (.inl rfl)) fun _ =>
  .op (.load sMk (Rect.unit (s := S8x512) off' S1x16.size inb').toLoadRect (View.loadsAt_vmem h_S1x16)) fun _ =>
  .op (.store sMk (Rect.unit (s := S8x512) off' S1x16.size inb') (shapeCast S1x16 (k0_pay15 v) shapeCasts_S16_S1x16) Finset.univ (View.stores_vmem_bits_univ h_S1x16 rfl) (.inl rfl)) fun _ =>
  .ret ()

/-- What a half holds before trip `k`: the types and the table, and the three results up to the trip. -/
def typeInv (hb : ℕ) (av : S8x512.Idx → BitVec 32) (Tb : Vec F S8 .f32) (o5 : S8x512.Idx → F .f32) (o6 o7 : S8x512.Idx → BitVec 32) (k : ℕ) : sProp 𝕄 :=
  iprop((sA.view.loc (V d (cV L) (jV L)) ↦[half2 hb]{fullShare} av)
    ∗ (sTab.view.loc (V d (cV L) (jV L)) ↦{fullShare} Tb)
    ∗ (sVm.view.loc (V d (cV L) (jV L)) ↦[half2 hb]{fullShare} upTo grp k (masksOf Tb av) o5)
    ∗ (sAt.view.loc (V d (cV L) (jV L)) ↦[half2 hb]{fullShare} upTo grp k (shiftsOf av) o6)
    ∗ (sMk.view.loc (V d (cV L) (jV L)) ↦[half2 hb]{fullShare} upTo grp k (wordsOf Tb av) o7))

variable {hb : ℕ} (hhb : hb = 0 ∨ hb = 256) {av : S8x512.Idx → BitVec 32} (hav : ∀ x, (av x).toNat < 8) (Tb : Vec F S8 .f32)
  (o5 : S8x512.Idx → F .f32) (o6 o7 : S8x512.Idx → BitVec 32)

theorem setOn_load {b : Ref sig .scVector} (r : Rect b.ty.shape) : (Memref.whole b).view.setOn r.toLoadRect.set = r.set := Finset.map_refl

theorem setOn_store {b : Ref sig .scVector} (r : Rect b.ty.shape) : ((Memref.whole b).access r).setOn Finset.univ = r.set := by
  rw [View.setOn_univ]; exact View.set_slice_whole b r

/-- A store of exactly the elements of stage `k` moves a buffer from before the stage to after it. -/
theorem stage_store (b : Ref sig .scVector) (c : Fin τ.nSC) (j : Fin τ.nSub) (r : Rect b.ty.shape) (g : b.ty.shape.Idx → ℕ) (k : ℕ)
    (S : Finset b.ty.shape.Idx) (new old : b.ty.Contents (Elt F)) (w : r.shape.Idx → Elt F b.ty.elt)
    (hg : ∀ x, g (r.emb x) = k) (hw : ∀ x, new (r.emb x) = w x) (hout : ∀ i ∈ S, g i = k → i ∈ r.set) :
    ((((Memref.whole b).access r).loc (V d c j) ↦[S]{fullShare} ((Memref.whole b).access r).write (Elt F) (upTo g k new old) w Finset.univ : sProp 𝕄))
      ⊢ ((Memref.whole b).view.loc (V d c j) ↦[S]{fullShare} upTo g (k + 1) new old) :=
  Entails.of_eq (pointsTo_congr (ℓ := (Memref.whole b).view.loc (V d c j)) fun i hi => write_whole_rect (Val := Elt F) b r (upTo g k new old) (upTo g (k + 1) new old) w i
    (fun x => (upTo_now g new old (hg x)).trans (hw x)) (fun h => upTo_other g new old fun e => h (hout i hi e)))

include hhb hav in
theorem typeStep_wp (k : ℕ) {off off' : Fin 2 → ℕ} (hoff : off = laneOff hb k) (hoff' : off' = laneOff hb k)
    (inb : ∀ a, off a + S1x16.size a ≤ S8x512.size a) (inb' : ∀ a, off' a + S1x16.size a ≤ S8x512.size a) :
    typeInv d L hb av Tb o5 o6 o7 k
      ⊢ wp frame (wpE (defs₀ (F := F)) 𝒱₀ (V d (cV L) (jV L)) none) Set.univ (typeStep L off off' inb inb')
          fun _ => typeInv d L hb av Tb o5 o6 o7 (k + 1) := by
  subst hoff'
  subst hoff
  unfold typeInv typeStep
  have hS : (Rect.unit (s := S8x512) (laneOff hb k) S1x16.size inb).set ⊆ half2 hb := lane_subset hhb rfl inb
  iintro ⟨HA, HT, H5, H6, H7⟩
  iapply (wp_load 𝒱₀ (V d (cV L) (jV L)) none Set.univ (m := sA) (S := half2 hb) ((setOn_load _).trans_subset hS)) $$ HA
  iintro HA
  have hchk : k0_chk1 (shapeCast S16 (sA.view.readAt (Elt F) (Rect.unit (s := S8x512) (laneOff hb k) S1x16.size inb).toLoadRect av) shapeCasts_S1x16_S16) := by
    intro a x
    have ha : a = 0 := Fin.eq_zero a
    subst ha
    exact hav _
  rw [wp_assume_of _ _ _ _ hchk]
  iapply (SparseCore.wp_vectorLoadIdx 𝒱₀ (V d (cV L) (jV L)) none Set.univ (base := sTab) (S := Finset.univ) (q := fullShare) (Finset.subset_univ _)) $$ HT
  iintro HT
  rw [show (sTab.access (Rect.whole S8)).read (Elt F) Tb = Tb from Memref.read_access_whole (Elt F) cc0_scratch4 Tb]
  iapply (wp_load 𝒱₀ (V d (cV L) (jV L)) none Set.univ (m := sVm) (S := half2 hb) ((setOn_load _).trans_subset hS)) $$ H5
  iintro H5
  iapply (wp_store 𝒱₀ (V d (cV L) (jV L)) none Set.univ (m := sVm) (r := Rect.unit (s := S8x512) (laneOff hb k) S1x16.size inb') (Mk := Finset.univ) (S := half2 hb) ((setOn_store _).trans_subset hS)) $$ H5
  iintro H5
  iapply (wp_load 𝒱₀ (V d (cV L) (jV L)) none Set.univ (m := sAt) (S := half2 hb) ((setOn_load _).trans_subset hS)) $$ H6
  iintro H6
  iapply (wp_store 𝒱₀ (V d (cV L) (jV L)) none Set.univ (m := sAt) (r := Rect.unit (s := S8x512) (laneOff hb k) S1x16.size inb') (Mk := Finset.univ) (S := half2 hb) ((setOn_store _).trans_subset hS)) $$ H6
  iintro H6
  iapply (wp_load 𝒱₀ (V d (cV L) (jV L)) none Set.univ (m := sMk) (S := half2 hb) ((setOn_load _).trans_subset hS)) $$ H7
  iintro H7
  iapply (wp_store 𝒱₀ (V d (cV L) (jV L)) none Set.univ (m := sMk) (r := Rect.unit (s := S8x512) (laneOff hb k) S1x16.size inb') (Mk := Finset.univ) (S := half2 hb) ((setOn_store _).trans_subset hS)) $$ H7
  iintro H7
  rw [wp_ret]
  imodintro
  isplitl [HA]; iexact HA
  isplitl [HT]; iexact HT
  have hread : ∀ x : S1x16.Idx, shapeCast S16 (sA.view.readAt (Elt F) (Rect.unit (s := S8x512) (laneOff hb k) S1x16.size inb).toLoadRect av) shapeCasts_S1x16_S16 (fun a => x a.succ)
      = av ((Rect.unit (s := S8x512) (laneOff hb k) S1x16.size inb').emb x) := fun x => cast_row _ x
  isplitl [H5]
  · iapply (stage_store d cc0_scratch5 (cV L) (jV L) (Rect.unit (s := S8x512) (laneOff hb k) S1x16.size inb') grp k (half2 hb) (masksOf Tb av) o5 _
      (fun x => lane_grp_emb hhb rfl inb' x) (fun x => ?_) (fun i hi => (lane_grp hhb rfl inb' hi).mpr)) $$ H5
    refine Eq.symm ((cast_lane _ x).trans ((lookup_lane Tb _ _ _).trans ?_))
    exact congrArg (lookMask Tb) (hread x)
  isplitl [H6]
  · iapply (stage_store d cc0_scratch6 (cV L) (jV L) (Rect.unit (s := S8x512) (laneOff hb k) S1x16.size inb') grp k (half2 hb) (shiftsOf av) o6 _
      (fun x => lane_grp_emb hhb rfl inb' x) (fun x => ?_) (fun i hi => (lane_grp hhb rfl inb' hi).mpr)) $$ H6
    refine Eq.symm ((cast_lane _ x).trans ?_)
    exact congrArg shiftType (hread x)
  · iapply (stage_store d cc0_scratch7 (cV L) (jV L) (Rect.unit (s := S8x512) (laneOff hb k) S1x16.size inb') grp k (half2 hb) (wordsOf Tb av) o7 _
      (fun x => lane_grp_emb hhb rfl inb' x) (fun x => ?_) (fun i hi => (lane_grp hhb rfl inb' hi).mpr)) $$ H7
    refine Eq.symm ((cast_lane _ x).trans ?_)
    exact congrArg maskWord ((lookup_lane Tb _ _ _).trans (congrArg (lookMask Tb) (hread x)))

/-! ## The program's two loops -/

/-- The loops' bodies at the tile's own arrays and scratches. -/
abbrev body1 (v2 : BitVec 32) := k0_t1_body (F := F) L hX0 (Memref.isWhole_whole _) hX1 (Memref.isWhole_whole _) hA (Memref.isWhole_whole _) hX2 (Memref.isWhole_whole _) hTab (Memref.isWhole_whole _)
    hCS (Memref.isWhole_whole _) hAS (Memref.isWhole_whole _) hFM (Memref.isWhole_whole _) hMK (Memref.isWhole_whole _)
    sC (Memref.isWhole_whole _) sS (Memref.isWhole_whole _) sA (Memref.isWhole_whole _) sG (Memref.isWhole_whole _)
    sTab (Memref.isWhole_whole _) sVm (Memref.isWhole_whole _) sAt (Memref.isWhole_whole _) sMk (Memref.isWhole_whole _)
    cc0_scratch8 cc0_scratch9 cc0_scratch10 cc0_scratch11 cc0_scratch12 cc0_scratch13 cc0_scratch14 cc0_scratch15 cc0_scratch16 cc0_scoped0 v2
abbrev body2 (v2 : BitVec 32) := k0_t2_body (F := F) L hX0 (Memref.isWhole_whole _) hX1 (Memref.isWhole_whole _) hA (Memref.isWhole_whole _) hX2 (Memref.isWhole_whole _) hTab (Memref.isWhole_whole _)
    hCS (Memref.isWhole_whole _) hAS (Memref.isWhole_whole _) hFM (Memref.isWhole_whole _) hMK (Memref.isWhole_whole _)
    sC (Memref.isWhole_whole _) sS (Memref.isWhole_whole _) sA (Memref.isWhole_whole _) sG (Memref.isWhole_whole _)
    sTab (Memref.isWhole_whole _) sVm (Memref.isWhole_whole _) sAt (Memref.isWhole_whole _) sMk (Memref.isWhole_whole _)
    cc0_scratch8 cc0_scratch9 cc0_scratch10 cc0_scratch11 cc0_scratch12 cc0_scratch13 cc0_scratch14 cc0_scratch15 cc0_scratch16 cc0_scoped0 v2

theorem body1_eq (v2 : BitVec 32) (t : Fin k0_t1_loop.trips) :
    body1 (F := F) L v2 t () = typeStep L (k0_off4 t) (k0_off5 t) (k0_off4_inb t) (k0_off5_inb t) := by
  unfold body1 k0_t1_body
  rw [k0_part1_eq_skeleton]
  rfl

theorem body2_eq (v2 : BitVec 32) (t : Fin k0_t2_loop.trips) :
    body2 (F := F) L v2 t () = typeStep L (k0_off8 t) (k0_off9 t) (k0_off8_inb t) (k0_off9_inb t) := by
  unfold body2 k0_t2_body
  rw [k0_part2_eq_skeleton]
  rfl

end Cert.Proof.Spin
-- ==== Proof.VecLoop.lean ====
/-
  The loop over a half of the tile's coordinates, spins and forces: each trip reads sixteen masks and, for each of the
  three components, replaces the spins by the moved coordinates and the forces by the scaled ones, in place. Written once
  for any component and any offset of the half; the program's two loops are its instances.
-/
module

public import proofs.«01_k».proof.Proof.TypeLoop
public import Idealize.ShloMosaic.Lib.Pointwise.Reshape

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

/-! ## One lane's values -/

theorem casts_1x1x16_1x16 : S1x1x16.ShapeCasts S1x16 := by decide
theorem casts_1x16_1x1x16 : S1x16.ShapeCasts S1x1x16 := by decide

theorem cons_row (x : S1x1x16.Idx) : (Fin.cons (⟨0, Nat.one_pos⟩ : Fin 1) (fun a : Fin 2 => x a.succ) : S1x1x16.Idx) = x := by
  funext a
  refine Fin.cases ?_ (fun b => rfl) a
  have h : (x 0).val < 1 := (x 0).isLt
  exact Fin.ext (show 0 = (x 0).val by omega)

theorem cast_plane {α : Type} (v : S1x1x16.Idx → α) (x : S1x1x16.Idx) :
    shapeCast S16 v shapeCasts_S1x1x16_S16 (fun a => x a.succ.succ) = v x := by
  have e : shapeCast S16 v shapeCasts_S1x1x16_S16 = shapeCast S16 (shapeCast S1x16 v casts_1x1x16_1x16) shapeCasts_S1x16_S16 :=
    (shapeCast_comp v _ _).symm
  rw [e]
  refine (cast_row (shapeCast S1x16 v casts_1x1x16_1x16) (fun a => x a.succ)).trans ?_
  refine (shapeCast_dropUnit_apply ![1, 16] v casts_1x1x16_1x16 (fun a => x a.succ)).trans ?_
  exact congrArg v (cons_row x)

theorem cast_lane3 {α : Type} (v : S16.Idx → α) (x : S1x1x16.Idx) :
    shapeCast S1x1x16 v shapeCasts_S16_S1x1x16 x = v (fun a => x a.succ.succ) := by
  have e : shapeCast S1x1x16 v shapeCasts_S16_S1x1x16 = shapeCast S1x1x16 (shapeCast S1x16 v shapeCasts_S16_S1x16) casts_1x16_1x1x16 :=
    (shapeCast_comp v _ _).symm
  rw [e]
  refine (shapeCast_addUnit_apply ![1, 16] (shapeCast S1x16 v shapeCasts_S16_S1x16) casts_1x16_1x1x16 x).trans ?_
  exact cast_lane v (fun a => x a.succ)

/-! ## One component of one trip -/

variable (d : Dev nD) (L : grid0.Coords)

/-- A component's memory operations, at the offset of its sixteen lanes, before the program `k`. -/
def vecStage (off : Fin 3 → ℕ) (inb : ∀ a, off a + S1x1x16.size a ≤ S3x8x512.size a) (vm : Vec F S16 .f32)
    (k : Prog (TpuEff nD τ sig (Elt F) Λ₀ (.scVector (cV L) (jV L))) Unit) :
    Prog (TpuEff nD τ sig (Elt F) Λ₀ (.scVector (cV L) (jV L))) Unit :=
  .op (.load sC (Rect.unit (s := S3x8x512) off S1x1x16.size inb).toLoadRect (View.loadsAt_vmem h_S1x1x16)) fun c =>
  .op (.load sS (Rect.unit (s := S3x8x512) off S1x1x16.size inb).toLoadRect (View.loadsAt_vmem h_S1x1x16)) fun s =>
  .op (.load sS (Rect.unit (s := S3x8x512) off S1x1x16.size inb).toLoadRect (View.loadsAt_vmem h_S1x1x16)) fun _ =>
  .op (.store sS (Rect.unit (s := S3x8x512) off S1x1x16.size inb) (shapeCast S1x1x16 (k0_pay7 vm c s) shapeCasts_S16_S1x1x16) Finset.univ (View.stores_vmem_bits_univ h_S1x1x16 rfl) (.inl rfl)) fun _ =>
  .op (.load sG (Rect.unit (s := S3x8x512) off S1x1x16.size inb).toLoadRect (View.loadsAt_vmem h_S1x1x16)) fun g =>
  .op (.load sG (Rect.unit (s := S3x8x512) off S1x1x16.size inb).toLoadRect (View.loadsAt_vmem h_S1x1x16)) fun _ =>
  .op (.store sG (Rect.unit (s := S3x8x512) off S1x1x16.size inb) (shapeCast S1x1x16 (k0_pay8 vm g) shapeCasts_S16_S1x1x16) Finset.univ (View.stores_vmem_bits_univ h_S1x1x16 rfl) (.inl rfl)) fun _ =>
  k

/-- What a half holds before stage `k`: the masks, the coordinates (a share of them), and the spins and forces replaced
    up to the stage. -/
def vecInv (hb : ℕ) (qc : PosShare TreeShare) (v : S8x512.Idx → F .f32) (c s g : S3x8x512.Idx → F .f32) (k : ℕ) : sProp 𝕄 :=
  iprop((sVm.view.loc (V d (cV L) (jV L)) ↦[half2 hb]{fullShare} v)
    ∗ (sC.view.loc (V d (cV L) (jV L)) ↦[half3 hb]{qc} c)
    ∗ (sS.view.loc (V d (cV L) (jV L)) ↦[half3 hb]{fullShare} upTo stg k (movedOf c s v) s)
    ∗ (sG.view.loc (V d (cV L) (jV L)) ↦[half3 hb]{fullShare} upTo stg k (scaledOf g v) g))

variable {hb : ℕ} (hhb : hb = 0 ∨ hb = 256) {qc : PosShare TreeShare} (v : S8x512.Idx → F .f32) (c s g : S3x8x512.Idx → F .f32)

/-- The mask lane beside a component's lane. -/
theorem lane_under {t p : ℕ} (inb : ∀ a, laneOff hb t a + S1x16.size a ≤ S8x512.size a) (inb3 : ∀ a, laneOff3 hb p t a + S1x1x16.size a ≤ S3x8x512.size a)
    (x : S1x1x16.Idx) :
    (Rect.unit (s := S8x512) (laneOff hb t) S1x16.size inb).emb (fun a : Fin 2 => x a.succ)
      = ix2 (((Rect.unit (s := S3x8x512) (laneOff3 hb p t) S1x1x16.size inb3).emb x) 1) (((Rect.unit (s := S3x8x512) (laneOff3 hb p t) S1x1x16.size inb3).emb x) 2) := by
  funext a
  fin_cases a <;> rfl

include hhb in
theorem vecStage_wp {t p : ℕ} (hp : p < 3) (inb : ∀ a, laneOff hb t a + S1x16.size a ≤ S8x512.size a)
    {off : Fin 3 → ℕ} (hoff : off = laneOff3 hb p t) (inb3 : ∀ a, off a + S1x1x16.size a ≤ S3x8x512.size a)
    (vm : Vec F S16 .f32)
    (hvm : vm = shapeCast S16 (sVm.view.readAt (Elt F) (Rect.unit (s := S8x512) (laneOff hb t) S1x16.size inb).toLoadRect v) shapeCasts_S1x16_S16)
    (k : Prog (TpuEff nD τ sig (Elt F) Λ₀ (.scVector (cV L) (jV L))) Unit) (Q : Unit → sProp 𝕄) :
    vecInv d L hb qc v c s g (3 * t + p)
      ⊢ iprop((vecInv d L hb qc v c s g (3 * t + p + 1) -∗ wp frame (wpE (defs₀ (F := F)) 𝒱₀ (V d (cV L) (jV L)) none) Set.univ k Q)
          -∗ wp frame (wpE (defs₀ (F := F)) 𝒱₀ (V d (cV L) (jV L)) none) Set.univ (vecStage L off inb3 vm k) Q) := by
  subst hoff
  unfold vecInv vecStage
  have hS : (Rect.unit (s := S3x8x512) (laneOff3 hb p t) S1x1x16.size inb3).set ⊆ half3 hb := lane3_subset hhb rfl inb3
  have hold : ∀ x (new old : S3x8x512.Idx → F .f32), upTo stg (3 * t + p) new old ((Rect.unit (s := S3x8x512) (laneOff3 hb p t) S1x1x16.size inb3).emb x)
      = old ((Rect.unit (s := S3x8x512) (laneOff3 hb p t) S1x1x16.size inb3).emb x) :=
    fun x new old => upTo_before stg new old (lane3_stg_emb hhb hp rfl inb3 x)
  have hmask : ∀ x : S1x1x16.Idx, vm (fun a => x a.succ.succ)
      = v (ix2 (((Rect.unit (s := S3x8x512) (laneOff3 hb p t) S1x1x16.size inb3).emb x) 1) (((Rect.unit (s := S3x8x512) (laneOff3 hb p t) S1x1x16.size inb3).emb x) 2)) := by
    intro x
    rw [hvm]
    refine (cast_row _ (fun a => x a.succ)).trans ?_
    exact congrArg v (lane_under inb inb3 x)
  iintro ⟨HV, HC, HS, HG⟩ Hk
  iapply (wp_load 𝒱₀ (V d (cV L) (jV L)) none Set.univ (m := sC) (S := half3 hb) ((setOn_load _).trans_subset hS)) $$ HC
  iintro HC
  iapply (wp_load 𝒱₀ (V d (cV L) (jV L)) none Set.univ (m := sS) (S := half3 hb) ((setOn_load _).trans_subset hS)) $$ HS
  iintro HS
  iapply (wp_load 𝒱₀ (V d (cV L) (jV L)) none Set.univ (m := sS) (S := half3 hb) ((setOn_load _).trans_subset hS)) $$ HS
  iintro HS
  iapply (wp_store 𝒱₀ (V d (cV L) (jV L)) none Set.univ (m := sS) (r := Rect.unit (s := S3x8x512) (laneOff3 hb p t) S1x1x16.size inb3) (Mk := Finset.univ) (S := half3 hb) ((setOn_store _).trans_subset hS)) $$ HS
  iintro HS
  iapply (wp_load 𝒱₀ (V d (cV L) (jV L)) none Set.univ (m := sG) (S := half3 hb) ((setOn_load _).trans_subset hS)) $$ HG
  iintro HG
  iapply (wp_load 𝒱₀ (V d (cV L) (jV L)) none Set.univ (m := sG) (S := half3 hb) ((setOn_load _).trans_subset hS)) $$ HG
  iintro HG
  iapply (wp_store 𝒱₀ (V d (cV L) (jV L)) none Set.univ (m := sG) (r := Rect.unit (s := S3x8x512) (laneOff3 hb p t) S1x1x16.size inb3) (Mk := Finset.univ) (S := half3 hb) ((setOn_store _).trans_subset hS)) $$ HG
  iintro HG
  iapply Hk
  isplitl [HV]; · iexact HV
  isplitl [HC]; · iexact HC
  isplitl [HS]
  · iapply (stage_store d cc0_scratch1 (cV L) (jV L) (Rect.unit (s := S3x8x512) (laneOff3 hb p t) S1x1x16.size inb3) stg (3 * t + p) (half3 hb) (movedOf c s v) s _
      (fun x => lane3_stg_emb hhb hp rfl inb3 x) (fun x => ?_) (fun i hi => (lane3_stg hhb hp rfl inb3 hi).mpr)) $$ HS
    refine Eq.symm ((cast_lane3 _ x).trans ?_)
    show FloatOps.addf (shapeCast S16 _ _ _) (FloatOps.mulf (shapeCast S16 _ _ _) _) = _
    rw [cast_plane, cast_plane, hmask x]
    exact congrArg (fun e => FloatOps.addf _ (FloatOps.mulf e _)) (hold x _ _)
  · iapply (stage_store d cc0_scratch3 (cV L) (jV L) (Rect.unit (s := S3x8x512) (laneOff3 hb p t) S1x1x16.size inb3) stg (3 * t + p) (half3 hb) (scaledOf g v) g _
      (fun x => lane3_stg_emb hhb hp rfl inb3 x) (fun x => ?_) (fun i hi => (lane3_stg hhb hp rfl inb3 hi).mpr)) $$ HG
    refine Eq.symm ((cast_lane3 _ x).trans ?_)
    show FloatOps.mulf (shapeCast S16 _ _ _) _ = _
    rw [cast_plane, hmask x]
    exact congrArg (fun e => FloatOps.mulf e _) (hold x _ _)

/-! ## One trip -/

/-- One trip's memory operations, at the offsets of its lanes. -/
def vecStep (off : Fin 2 → ℕ) (inb : ∀ a, off a + S1x16.size a ≤ S8x512.size a) (off0 off1 off2 : Fin 3 → ℕ)
    (inb0 : ∀ a, off0 a + S1x1x16.size a ≤ S3x8x512.size a) (inb1 : ∀ a, off1 a + S1x1x16.size a ≤ S3x8x512.size a)
    (inb2 : ∀ a, off2 a + S1x1x16.size a ≤ S3x8x512.size a) : Prog (TpuEff nD τ sig (Elt F) Λ₀ (.scVector (cV L) (jV L))) Unit :=
  .op (.load sVm (Rect.unit (s := S8x512) off S1x16.size inb).toLoadRect (View.loadsAt_vmem h_S1x16)) fun vm =>
  vecStage L off0 inb0 (shapeCast S16 vm shapeCasts_S1x16_S16)
    (vecStage L off1 inb1 (shapeCast S16 vm shapeCasts_S1x16_S16)
      (vecStage L off2 inb2 (shapeCast S16 vm shapeCasts_S1x16_S16) (.ret ())))

include hhb in
theorem vecStep_wp (t : ℕ) {off : Fin 2 → ℕ} (hoff : off = laneOff hb t) (inb : ∀ a, off a + S1x16.size a ≤ S8x512.size a)
    {off0 off1 off2 : Fin 3 → ℕ} (hoff0 : off0 = laneOff3 hb 0 t) (hoff1 : off1 = laneOff3 hb 1 t) (hoff2 : off2 = laneOff3 hb 2 t)
    (inb0 : ∀ a, off0 a + S1x1x16.size a ≤ S3x8x512.size a) (inb1 : ∀ a, off1 a + S1x1x16.size a ≤ S3x8x512.size a)
    (inb2 : ∀ a, off2 a + S1x1x16.size a ≤ S3x8x512.size a) :
    vecInv d L hb qc v c s g (3 * t)
      ⊢ wp frame (wpE (defs₀ (F := F)) 𝒱₀ (V d (cV L) (jV L)) none) Set.univ (vecStep L off inb off0 off1 off2 inb0 inb1 inb2)
          fun _ => vecInv d L hb qc v c s g (3 * (t + 1)) := by
  subst hoff
  unfold vecStep
  have hS : (Rect.unit (s := S8x512) (laneOff hb t) S1x16.size inb).set ⊆ half2 hb := lane_subset hhb rfl inb
  have hload : vecInv d L hb qc v c s g (3 * t + 0)
      ⊢ iprop((sVm.view.loc (V d (cV L) (jV L)) ↦[half2 hb]{fullShare} v)
        ∗ ((sVm.view.loc (V d (cV L) (jV L)) ↦[half2 hb]{fullShare} v) -∗ vecInv d L hb qc v c s g (3 * t + 0))) := by
    unfold vecInv
    iintro ⟨HV, HR⟩
    isplitl [HV]; · iexact HV
    iintro HV
    isplitl [HV]; · iexact HV
    iexact HR
  refine hload.trans ?_
  iintro ⟨HV, HR⟩
  iapply (wp_load 𝒱₀ (V d (cV L) (jV L)) none Set.univ (m := sVm) (S := half2 hb) ((setOn_load _).trans_subset hS)) $$ HV
  iintro HV
  ihave HI := HR $$ HV
  iapply (vecStage_wp d L hhb v c s g (by omega : 0 < 3) inb hoff0 inb0 _ rfl _ _) $$ HI
  iintro HI
  iapply (vecStage_wp d L hhb v c s g (by omega : 1 < 3) inb hoff1 inb1 _ rfl _ _) $$ HI
  iintro HI
  iapply (vecStage_wp d L hhb v c s g (by omega : 2 < 3) inb hoff2 inb2 _ rfl _ _) $$ HI
  iintro HI
  rw [wp_ret]
  imodintro
  iexact HI

/-! ## The program's two loops -/

abbrev body3 (v2 : BitVec 32) := k0_t3_body (F := F) L hX0 (Memref.isWhole_whole _) hX1 (Memref.isWhole_whole _) hA (Memref.isWhole_whole _) hX2 (Memref.isWhole_whole _) hTab (Memref.isWhole_whole _)
    hCS (Memref.isWhole_whole _) hAS (Memref.isWhole_whole _) hFM (Memref.isWhole_whole _) hMK (Memref.isWhole_whole _)
    sC (Memref.isWhole_whole _) sS (Memref.isWhole_whole _) sA (Memref.isWhole_whole _) sG (Memref.isWhole_whole _)
    sTab (Memref.isWhole_whole _) sVm (Memref.isWhole_whole _) sAt (Memref.isWhole_whole _) sMk (Memref.isWhole_whole _)
    cc0_scratch8 cc0_scratch9 cc0_scratch10 cc0_scratch11 cc0_scratch12 cc0_scratch13 cc0_scratch14 cc0_scratch15 cc0_scratch16 cc0_scoped0 v2
abbrev body4 (v2 : BitVec 32) := k0_t4_body (F := F) L hX0 (Memref.isWhole_whole _) hX1 (Memref.isWhole_whole _) hA (Memref.isWhole_whole _) hX2 (Memref.isWhole_whole _) hTab (Memref.isWhole_whole _)
    hCS (Memref.isWhole_whole _) hAS (Memref.isWhole_whole _) hFM (Memref.isWhole_whole _) hMK (Memref.isWhole_whole _)
    sC (Memref.isWhole_whole _) sS (Memref.isWhole_whole _) sA (Memref.isWhole_whole _) sG (Memref.isWhole_whole _)
    sTab (Memref.isWhole_whole _) sVm (Memref.isWhole_whole _) sAt (Memref.isWhole_whole _) sMk (Memref.isWhole_whole _)
    cc0_scratch8 cc0_scratch9 cc0_scratch10 cc0_scratch11 cc0_scratch12 cc0_scratch13 cc0_scratch14 cc0_scratch15 cc0_scratch16 cc0_scoped0 v2

theorem body3_eq (v2 : BitVec 32) (t : Fin k0_t3_loop.trips) :
    body3 (F := F) L v2 t () = vecStep L (k0_off11 t) (k0_off11_inb t) (k0_off12 t) (k0_off13 t) (k0_off14 t) (k0_off12_inb t) (k0_off13_inb t) (k0_off14_inb t) := by
  unfold body3 k0_t3_body
  rw [k0_part3_eq_skeleton, k0_part4_eq_skeleton]
  rfl

theorem body4_eq (v2 : BitVec 32) (t : Fin k0_t4_loop.trips) :
    body4 (F := F) L v2 t () = vecStep L (k0_off15 t) (k0_off15_inb t) (k0_off16 t) (k0_off17 t) (k0_off18 t) (k0_off16_inb t) (k0_off17_inb t) (k0_off18_inb t) := by
  unfold body4 k0_t4_body
  rw [k0_part5_eq_skeleton, k0_part6_eq_skeleton]
  rfl

end Cert.Proof.Spin
-- ==== Proof.Loops.lean ====
/-
  The four loops, each over a half of the scratches: a trip keeps the loop's invariant, and after the last trip the half
  holds its closed form.
-/
module

public import proofs.«01_k».proof.Proof.TypeLoop
public import proofs.«01_k».proof.Proof.VecLoop

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (L : grid0.Coords) (d : Dev nD)

theorem trips1' : Scf.trips k0_t1_loop.lb k0_t1_loop.ub k0_t1_loop.st = 128 := trips1
theorem trips2' : Scf.trips k0_t2_loop.lb k0_t2_loop.ub k0_t2_loop.st = 128 := trips2
theorem trips3' : Scf.trips k0_t3_loop.lb k0_t3_loop.ub k0_t3_loop.st = 128 := trips3
theorem trips4' : Scf.trips k0_t4_loop.lb k0_t4_loop.ub k0_t4_loop.st = 128 := trips4

theorem region1 (v2 : BitVec 32) {av : S8x512.Idx → BitVec 32} (hav : ∀ x, (av x).toNat < 8) (Tb : Vec F S8 .f32)
    (o5 : S8x512.Idx → F .f32) (o6 o7 : S8x512.Idx → BitVec 32) (k : Fin k0_t1_loop.trips) :
    typeInv d L 0 av Tb o5 o6 o7 k.val
      ⊢ wp frame (wpE (defs₀ (F := F)) 𝒱₀ (V d (cV L) (jV L)) none) Set.univ (body1 (F := F) L v2 k ())
          fun _ => typeInv d L 0 av Tb o5 o6 o7 (k.val + 1) := by
  rw [body1_eq]
  exact typeStep_wp d L (.inl rfl) hav Tb o5 o6 o7 k.val (off4_eq k) (off5_eq k) _ _

theorem region2 (v2 : BitVec 32) {av : S8x512.Idx → BitVec 32} (hav : ∀ x, (av x).toNat < 8) (Tb : Vec F S8 .f32)
    (o5 : S8x512.Idx → F .f32) (o6 o7 : S8x512.Idx → BitVec 32) (k : Fin k0_t2_loop.trips) :
    typeInv d L 256 av Tb o5 o6 o7 k.val
      ⊢ wp frame (wpE (defs₀ (F := F)) 𝒱₀ (V d (cV L) (jV L)) none) Set.univ (body2 (F := F) L v2 k ())
          fun _ => typeInv d L 256 av Tb o5 o6 o7 (k.val + 1) := by
  rw [body2_eq]
  exact typeStep_wp d L (.inr rfl) hav Tb o5 o6 o7 k.val (off8_eq k) (off9_eq k) _ _

theorem region3 (v2 : BitVec 32) {qc : PosShare TreeShare} (v : S8x512.Idx → F .f32) (c s g : S3x8x512.Idx → F .f32) (k : Fin k0_t3_loop.trips) :
    vecInv d L 0 qc v c s g (3 * k.val)
      ⊢ wp frame (wpE (defs₀ (F := F)) 𝒱₀ (V d (cV L) (jV L)) none) Set.univ (body3 (F := F) L v2 k ())
          fun _ => vecInv d L 0 qc v c s g (3 * (k.val + 1)) := by
  rw [body3_eq]
  exact vecStep_wp d L (.inl rfl) v c s g k.val (off11_eq k) _ (off12_eq k) (off13_eq k) (off14_eq k) _ _ _

theorem region4 (v2 : BitVec 32) {qc : PosShare TreeShare} (v : S8x512.Idx → F .f32) (c s g : S3x8x512.Idx → F .f32) (k : Fin k0_t4_loop.trips) :
    vecInv d L 256 qc v c s g (3 * k.val)
      ⊢ wp frame (wpE (defs₀ (F := F)) 𝒱₀ (V d (cV L) (jV L)) none) Set.univ (body4 (F := F) L v2 k ())
          fun _ => vecInv d L 256 qc v c s g (3 * (k.val + 1)) := by
  rw [body4_eq]
  exact vecStep_wp d L (.inr rfl) v c s g k.val (off15_eq k) _ (off16_eq k) (off17_eq k) (off18_eq k) _ _ _

/-- Before the first trip nothing is replaced. -/
theorem typeInv_start (hb : ℕ) (av : S8x512.Idx → BitVec 32) (Tb : Vec F S8 .f32) (o5 : S8x512.Idx → F .f32) (o6 o7 : S8x512.Idx → BitVec 32) :
    iprop((sA.view.loc (V d (cV L) (jV L)) ↦[half2 hb]{fullShare} av) ∗ (sTab.view.loc (V d (cV L) (jV L)) ↦{fullShare} Tb)
      ∗ (sVm.view.loc (V d (cV L) (jV L)) ↦[half2 hb]{fullShare} o5) ∗ (sAt.view.loc (V d (cV L) (jV L)) ↦[half2 hb]{fullShare} o6)
      ∗ (sMk.view.loc (V d (cV L) (jV L)) ↦[half2 hb]{fullShare} o7)) ⊢ (typeInv d L hb av Tb o5 o6 o7 0 : sProp 𝕄) := by
  unfold typeInv
  simp only [upTo_zero]
  exact .rfl

/-- After the last trip the whole half is replaced. -/
theorem typeInv_end (hb : ℕ) (av : S8x512.Idx → BitVec 32) (Tb : Vec F S8 .f32) (o5 : S8x512.Idx → F .f32) (o6 o7 : S8x512.Idx → BitVec 32) :
    (typeInv d L hb av Tb o5 o6 o7 128 : sProp 𝕄)
      ⊢ iprop((sA.view.loc (V d (cV L) (jV L)) ↦[half2 hb]{fullShare} av) ∗ (sTab.view.loc (V d (cV L) (jV L)) ↦{fullShare} Tb)
      ∗ (sVm.view.loc (V d (cV L) (jV L)) ↦[half2 hb]{fullShare} masksOf Tb av) ∗ (sAt.view.loc (V d (cV L) (jV L)) ↦[half2 hb]{fullShare} shiftsOf av)
      ∗ (sMk.view.loc (V d (cV L) (jV L)) ↦[half2 hb]{fullShare} wordsOf Tb av)) := by
  unfold typeInv
  have h1 : upTo grp 128 (masksOf Tb av) o5 = masksOf Tb av := funext fun x => upTo_done grp _ _ (grp_lt x)
  have h2 : upTo grp 128 (shiftsOf av) o6 = shiftsOf av := funext fun x => upTo_done grp _ _ (grp_lt x)
  have h3 : upTo grp 128 (wordsOf Tb av) o7 = wordsOf Tb av := funext fun x => upTo_done grp _ _ (grp_lt x)
  rw [h1, h2, h3]

theorem vecInv_start (hb : ℕ) (qc : PosShare TreeShare) (v : S8x512.Idx → F .f32) (c s g : S3x8x512.Idx → F .f32) :
    iprop((sVm.view.loc (V d (cV L) (jV L)) ↦[half2 hb]{fullShare} v) ∗ (sC.view.loc (V d (cV L) (jV L)) ↦[half3 hb]{qc} c)
      ∗ (sS.view.loc (V d (cV L) (jV L)) ↦[half3 hb]{fullShare} s) ∗ (sG.view.loc (V d (cV L) (jV L)) ↦[half3 hb]{fullShare} g))
      ⊢ (vecInv d L hb qc v c s g (3 * 0) : sProp 𝕄) := by
  unfold vecInv
  simp only [Nat.mul_zero, upTo_zero]
  exact .rfl

theorem vecInv_end (hb : ℕ) (qc : PosShare TreeShare) (v : S8x512.Idx → F .f32) (c s g : S3x8x512.Idx → F .f32) :
    (vecInv d L hb qc v c s g (3 * 128) : sProp 𝕄)
      ⊢ iprop((sVm.view.loc (V d (cV L) (jV L)) ↦[half2 hb]{fullShare} v) ∗ (sC.view.loc (V d (cV L) (jV L)) ↦[half3 hb]{qc} c)
      ∗ (sS.view.loc (V d (cV L) (jV L)) ↦[half3 hb]{fullShare} movedOf c s v) ∗ (sG.view.loc (V d (cV L) (jV L)) ↦[half3 hb]{fullShare} scaledOf g v)) := by
  unfold vecInv
  have h1 : upTo stg (3 * 128) (movedOf c s v) s = movedOf c s v := funext fun x => upTo_done stg _ _ (stg_lt x)
  have h2 : upTo stg (3 * 128) (scaledOf g v) g = scaledOf g v := funext fun x => upTo_done stg _ _ (stg_lt x)
  rw [h1, h2]

end Cert.Proof.Spin
-- ==== Proof.Issue.lean ====
/-
  The twelve copies out of a tile: what each delivers, and the rules for issuing them and waiting for them.
-/
module

public import proofs.«01_k».proof.Proof.Own
public import proofs.«01_k».proof.Proof.Loops

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (L : grid0.Coords) (d : Dev nD)
variable (X0 X1 : S3x8x16384.Idx → F .f32) (A : S8x16384.Idx → BitVec 32) (X2 : S3x8x32768.Idx → F .f32) (Tb : Vec F S8 .f32)
variable (fCS : S3x8x32768.Idx → F .f32) (fAS : S8x32768.Idx → BitVec 32) (fFM : S3x8x16384.Idx → F .f32) (fMK : S8x16384.Idx → BitVec 32)

/-- A copy's delivery: the destination landed over `f0`, and the source back. -/
abbrev dlv {sp sp' : Space} {s : Shape} {e : EltTy} (D : Memref sig .scVector sp s e) (Sm : Memref sig .scVector sp' s e) (q : PosShare TreeShare)
    (f0 : D.view.ty.Contents (Elt F)) (fs : Sm.view.ty.Contents (Elt F)) : sProp 𝕄 :=
  iprop((D.view.loc (V d (cV L) (jV L)) ↦[D.view.set]{fullShare} D.view.writes (Elt F) f0 [⟨Rect.whole _, ReadAs.same.apply (Sm.view.read (Elt F) fs)⟩])
    ∗ (Sm.view.loc (V d (cV L) (jV L)) ↦[Sm.view.set]{q} fs))

/-- The twelve copies out, in the order they are issued. -/
def outDeliv : Fin 12 → sProp 𝕄
  | 0 => dlv L d (T0l L) sAl fullShare fAS (cols2 (colBase L) A)
  | 1 => dlv L d (T1l L) sAtl fullShare fAS (shiftsOf (cols2 (colBase L) A))
  | 2 => dlv L d (Mkl L) sMkl fullShare fMK (wordsOf Tb (cols2 (colBase L) A))
  | 3 => dlv L d (T0h L) sAh fullShare fAS (cols2 (colBase L) A)
  | 4 => dlv L d (T1h L) sAth fullShare fAS (shiftsOf (cols2 (colBase L) A))
  | 5 => dlv L d (Mkh L) sMkh fullShare fMK (wordsOf Tb (cols2 (colBase L) A))
  | 6 => dlv L d (C0l L) sCl fullShare.left fCS (cols3 (colBase L) X0)
  | 7 => dlv L d (C1l L) sSl fullShare fCS (movedOf (cols3 (colBase L) X0) (cols3 (colBase L) X1) (masksOf Tb (cols2 (colBase L) A)))
  | 8 => dlv L d (Fml L) sGl fullShare fFM (scaledOf (cols3hi (colBase L) X2) (masksOf Tb (cols2 (colBase L) A)))
  | 9 => dlv L d (C0h L) sCh fullShare.left fCS (cols3 (colBase L) X0)
  | 10 => dlv L d (C1h L) sSh fullShare fCS (movedOf (cols3 (colBase L) X0) (cols3 (colBase L) X1) (masksOf Tb (cols2 (colBase L) A)))
  | 11 => dlv L d (Fmh L) sGh fullShare fFM (scaledOf (cols3hi (colBase L) X2) (masksOf Tb (cols2 (colBase L) A)))

instance outDeliv_storable (t : Fin 12) : Storable (upEmb : UEmb _ 𝕄) (outDeliv L d X0 X1 A X2 Tb fCS fAS fFM fMK t) := by
  fin_cases t <;> simp only [outDeliv] <;> infer_instance

/-- Their credits. -/
abbrev outAmts : Fin 12 → ℕ := ![65536, 65536, 65536, 65536, 65536, 65536, 196608, 196608, 196608, 196608, 196608, 196608]

/-- A piece set aside, out of the run's sight. -/
def Aside (P : sProp 𝕄) : sProp 𝕄 := P
theorem aside (P : sProp 𝕄) : P ⊢ Aside P := BI.Entails.refl _
theorem unaside (P : sProp 𝕄) : Aside P ⊢ P := BI.Entails.refl _

abbrev thr : Thread nD τ := V d (cV L) (jV L)

/-- The tile's pieces of the arrays it reads (with the share of the table). -/
abbrev tileSrc (qT : PosShare TreeShare) : sProp 𝕄 :=
  iprop((hX0.view.loc (thr L d) ↦[blk3 (colBase L + 0)]{fullShare} X0) ∗ (hX0.view.loc (thr L d) ↦[blk3 (colBase L + 256)]{fullShare} X0)
    ∗ (hX1.view.loc (thr L d) ↦[blk3 (colBase L + 0)]{fullShare} X1) ∗ (hX1.view.loc (thr L d) ↦[blk3 (colBase L + 256)]{fullShare} X1)
    ∗ (hX2.view.loc (thr L d) ↦[blk3 (colBase L + 0 + 16384)]{fullShare} X2) ∗ (hX2.view.loc (thr L d) ↦[blk3 (colBase L + 256 + 16384)]{fullShare} X2)
    ∗ (hA.view.loc (thr L d) ↦[blk2 (colBase L + 0)]{fullShare} A) ∗ (hA.view.loc (thr L d) ↦[blk2 (colBase L + 256)]{fullShare} A)
    ∗ (hTab.view.loc (thr L d) ↦{qT} Tb))

/-- The tile's pieces of the arrays it writes. -/
abbrev tileDst (gCS : S3x8x32768.Idx → F .f32) (gAS : S8x32768.Idx → BitVec 32) (gFM : S3x8x16384.Idx → F .f32) (gMK : S8x16384.Idx → BitVec 32) : sProp 𝕄 :=
  iprop((hCS.view.loc (thr L d) ↦[blk3 (colBase L + 0)]{fullShare} gCS) ∗ (hCS.view.loc (thr L d) ↦[blk3 (colBase L + 256)]{fullShare} gCS)
    ∗ (hCS.view.loc (thr L d) ↦[blk3 (colBase L + 0 + 16384)]{fullShare} gCS) ∗ (hCS.view.loc (thr L d) ↦[blk3 (colBase L + 256 + 16384)]{fullShare} gCS)
    ∗ (hAS.view.loc (thr L d) ↦[blk2 (colBase L + 0)]{fullShare} gAS) ∗ (hAS.view.loc (thr L d) ↦[blk2 (colBase L + 256)]{fullShare} gAS)
    ∗ (hAS.view.loc (thr L d) ↦[blk2 (colBase L + 0 + 16384)]{fullShare} gAS) ∗ (hAS.view.loc (thr L d) ↦[blk2 (colBase L + 256 + 16384)]{fullShare} gAS)
    ∗ (hFM.view.loc (thr L d) ↦[blk3 (colBase L + 0)]{fullShare} gFM) ∗ (hFM.view.loc (thr L d) ↦[blk3 (colBase L + 256)]{fullShare} gFM)
    ∗ (hMK.view.loc (thr L d) ↦[blk2 (colBase L + 0)]{fullShare} gMK) ∗ (hMK.view.loc (thr L d) ↦[blk2 (colBase L + 256)]{fullShare} gMK))

/-- The kernel at the tile. -/
abbrev tileProg := cc0__sc_body (F := F) L hX0 (Memref.isWhole_whole _) hX1 (Memref.isWhole_whole _) hA (Memref.isWhole_whole _) hX2 (Memref.isWhole_whole _) hTab (Memref.isWhole_whole _)
    hCS (Memref.isWhole_whole _) hAS (Memref.isWhole_whole _) hFM (Memref.isWhole_whole _) hMK (Memref.isWhole_whole _)
    sC (Memref.isWhole_whole _) sS (Memref.isWhole_whole _) sA (Memref.isWhole_whole _) sG (Memref.isWhole_whole _)
    sTab (Memref.isWhole_whole _) sVm (Memref.isWhole_whole _) sAt (Memref.isWhole_whole _) sMk (Memref.isWhole_whole _)
    cc0_scratch8 cc0_scratch9 cc0_scratch10 cc0_scratch11 cc0_scratch12 cc0_scratch13 cc0_scratch14 cc0_scratch15 cc0_scratch16 cc0_scoped0

theorem ret_then {E : Type → Type _} {α β : Type} (a : α) (k : α → Prog E β) : Prog.bind (Prog.ret a) k = k a := rfl

theorem then_eq {E : Type → Type _} {α β : Type} (p : Prog E α) (k : α → Prog E β) : Prog.bind p k = p >>= k := rfl

theorem amts_total : Transfers.sumTo outAmts 12 = 1572864 := rfl

theorem credit_planes (D : Memref sig .scVector .hbm S3x8x256 .f32) : D.view.dmaCredit = 196608 := rfl

/-- A copy out of three planes, issued on the shared semaphore. -/
theorem issue_out (D : Memref sig .scVector .hbm S3x8x256 .f32) (Sm : Memref sig .scVector .vmem S3x8x256 .f32) (q : PosShare TreeShare)
    (f0 : D.view.ty.Contents (Elt F)) (fs : Sm.view.ty.Contents (Elt F)) (j : ℕ) (hj : j < 12) (hJ : outAmts ⟨j, hj⟩ = 196608)
    (hD : dlv L d D Sm q f0 fs ⊢ outDeliv L d X0 X1 A X2 Tb fCS fAS fFM fMK ⟨j, hj⟩)
    {hs : Sm.view.WordExact} {hd : D.view.WordExact} {ht : DmaTarget.Typed (nD := nD) .vmem (SemLoc.dma cc0_scratch16.sem) (DmaTarget.here (p := (thr L d).2) D)} {α : Type}
    {k : PUnit.{1} → Prog (TpuEff nD τ sig (Elt F) Λ₀ (thr L d).2) α} {Q : α → sProp 𝕄} :
    iprop((Sm.view.loc (thr L d) ↦[Sm.view.set]{q} fs) ∗ (D.view.loc (thr L d) ↦[D.view.set]{fullShare} f0)
        ∗ Transfers.MixedBatch (Lvl := ℕ) (countersEmb (U := UU)) (thr L d) (SemLoc.dma cc0_scratch16.sem) (default : HIx 1) outAmts
          (outDeliv L d X0 X1 A X2 Tb fCS fAS fFM fMK) j 0)
      ⊢ iprop((Transfers.MixedBatch (Lvl := ℕ) (countersEmb (U := UU)) (thr L d) (SemLoc.dma cc0_scratch16.sem) (default : HIx 1) outAmts
            (outDeliv L d X0 X1 A X2 Tb fCS fAS fFM fMK) (j + 1) 0 -∗ wp frame (wpE (defs₀ (F := F)) 𝒱₀ (thr L d) none) Set.univ (k ⟨⟩) Q)
          -∗ wp frame (wpE (defs₀ (F := F)) 𝒱₀ (thr L d) none) Set.univ
            (.op (.enqueueDma (p := (thr L d).2) Sm (.here D) (SemLoc.dma cc0_scratch16.sem) hs hd ht) k) Q) := by
  refine Transfers.wp_dmaMixedBatch (countersEmb (U := UU)) 𝒱₀ (thr L d) none (default : HIx 1) outAmts (Finset.Subset.refl _) hj
    ?_ (Nat.zero_le _) ?_
  · rw [hJ]; rfl
  · have e := View.write_univ_eq_writes_whole (Val := Elt F) D.view f0 [] (ReadAs.same.apply (Sm.view.read (Elt F) fs))
    rw [show D.view.write (Elt F) f0 (ReadAs.same.apply (Sm.view.read (Elt F) fs)) Finset.univ = _ from e]
    exact hD

/-- A wait of three planes on the shared semaphore, with more to come. -/
theorem wait_out (D : Memref sig .scVector .hbm S3x8x256 .f32) (Sm : Memref sig .scVector .vmem S3x8x256 .f32) (u : ℕ)
    (hu : u + 196608 ≤ 1572864) (O : CellTallies nD τ sig (HIx 1)) (W : Waits sig (HIx 1))
    {hs : Sm.view.WordExact} {hd : D.view.WordExact} {α : Type}
    {k : PUnit.{1} → Prog (TpuEff nD τ sig (Elt F) Λ₀ (thr L d).2) α} {Q : α → sProp 𝕄} :
    iprop(Transfers.MixedBatch (Lvl := ℕ) (countersEmb (U := UU)) (thr L d) (SemLoc.dma cc0_scratch16.sem) (default : HIx 1) outAmts
          (outDeliv L d X0 X1 A X2 Tb fCS fAS fFM fMK) 12 u ∗ owes (thr L d) O W ∗ MayWait (thr L d) (SemLoc.dma cc0_scratch16.sem) (default : HIx 1) O)
      ⊢ iprop((iprop(Transfers.MixedBatch (Lvl := ℕ) (countersEmb (U := UU)) (thr L d) (SemLoc.dma cc0_scratch16.sem) (default : HIx 1) outAmts
            (outDeliv L d X0 X1 A X2 Tb fCS fAS fFM fMK) 12 (u + 196608) ∗ owes (thr L d) O (insert (SemLoc.dma cc0_scratch16.sem, (default : HIx 1)) W))
              -∗ wp frame (wpE (defs₀ (F := F)) 𝒱₀ (thr L d) none) Set.univ (k ⟨⟩) Q)
          -∗ wp frame (wpE (defs₀ (F := F)) 𝒱₀ (thr L d) none) Set.univ (.op (.waitDma2 (p := (thr L d).2) cc0_scratch16.sem Sm D hs hd) k) Q) :=
  Transfers.wp_waitMixedBatchO (countersEmb (U := UU)) 𝒱₀ (thr L d) none (default : HIx 1) (J := 196608) (credit_planes D) (hu.trans (le_of_eq amts_total.symm))

/-- The last wait hands back what all the copies delivered. -/
theorem wait_last (D : Memref sig .scVector .hbm S3x8x256 .f32) (Sm : Memref sig .scVector .vmem S3x8x256 .f32)
    (O : CellTallies nD τ sig (HIx 1)) (W : Waits sig (HIx 1))
    {hs : Sm.view.WordExact} {hd : D.view.WordExact} {α : Type}
    {k : PUnit.{1} → Prog (TpuEff nD τ sig (Elt F) Λ₀ (thr L d).2) α} {Q : α → sProp 𝕄} :
    iprop(Transfers.MixedBatch (Lvl := ℕ) (countersEmb (U := UU)) (thr L d) (SemLoc.dma cc0_scratch16.sem) (default : HIx 1) outAmts
          (outDeliv L d X0 X1 A X2 Tb fCS fAS fFM fMK) 12 1376256 ∗ owes (thr L d) O W ∗ MayWait (thr L d) (SemLoc.dma cc0_scratch16.sem) (default : HIx 1) O)
      ⊢ iprop((iprop(bigSep Finset.univ (outDeliv L d X0 X1 A X2 Tb fCS fAS fFM fMK) ∗ semVal (thr L d, .dma cc0_scratch16.sem) 0
            ∗ owes (thr L d) O (insert (SemLoc.dma cc0_scratch16.sem, (default : HIx 1)) W))
              -∗ wp frame (wpE (defs₀ (F := F)) 𝒱₀ (thr L d) none) Set.univ (k ⟨⟩) Q)
          -∗ wp frame (wpE (defs₀ (F := F)) 𝒱₀ (thr L d) none) Set.univ (.op (.waitDma2 (p := (thr L d).2) cc0_scratch16.sem Sm D hs hd) k) Q) :=
  Transfers.wp_waitMixedBatchAllO (countersEmb (U := UU)) 𝒱₀ (thr L d) none (default : HIx 1) (J := 196608) (credit_planes D)
    (fun t => by fin_cases t <;> decide) (by rw [amts_total])

/-- Twelve of a family, one by one. -/
theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} from by decide,
    bigSep_insert (by decide), bigSep_insert (by decide), bigSep_insert (by decide), bigSep_insert (by decide), bigSep_insert (by decide),
    bigSep_insert (by decide), bigSep_insert (by decide), bigSep_insert (by decide), bigSep_insert (by decide), bigSep_insert (by decide),
    bigSep_insert (by decide), bigSep_singleton]
  rfl

end Cert.Proof.Spin
-- ==== Proof.Tile.lean ====
/-
  One tile's run: the fetches, the four loops and the twelve copies out, from the tile's pieces of the arrays to the same
  pieces holding the results.
-/
module

public import proofs.«01_k».proof.Proof.Own
public import proofs.«01_k».proof.Proof.Loops
public import proofs.«01_k».proof.Proof.Issue

@[expose] public section

noncomputable section

namespace Cert.Proof.Spin

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MM F

variable (L : grid0.Coords) (d : Dev nD)
variable (X0 X1 : S3x8x16384.Idx → F .f32) (A : S8x16384.Idx → BitVec 32) (X2 : S3x8x32768.Idx → F .f32) (Tb : Vec F S8 .f32)
variable (fCS : S3x8x32768.Idx → F .f32) (fAS : S8x32768.Idx → BitVec 32) (fFM : S3x8x16384.Idx → F .f32) (fMK : S8x16384.Idx → BitVec 32)

/-- The table's copy lands the table. -/
theorem sTab_land (fT : Vec F S8 .f32) :
    View.write (Elt F) sTab.view fT (ReadAs.same.apply (hTab.view.read (Elt F) Tb)) Finset.univ = Tb := by
  exact View.write_whole_univ _ _ _

/-- All the copies landed: the tile's pieces of the results, and the sources back. -/
theorem out_all :
    bigSep Finset.univ (outDeliv L d X0 X1 A X2 Tb fCS fAS fFM fMK)
      ⊢ iprop(tileDst L d (csAll X0 X1 A Tb) (asAll A) (fmAll A X2 Tb) (mkAll A Tb)
        ∗ (sA.view.loc (V d (cV L) (jV L)) ↦[half2 0]{fullShare} cols2 (colBase L) A)
        ∗ (sAt.view.loc (V d (cV L) (jV L)) ↦[half2 0]{fullShare} shiftsOf (cols2 (colBase L) A))
        ∗ (sMk.view.loc (V d (cV L) (jV L)) ↦[half2 0]{fullShare} wordsOf Tb (cols2 (colBase L) A))
        ∗ (sA.view.loc (V d (cV L) (jV L)) ↦[half2 256]{fullShare} cols2 (colBase L) A)
        ∗ (sAt.view.loc (V d (cV L) (jV L)) ↦[half2 256]{fullShare} shiftsOf (cols2 (colBase L) A))
        ∗ (sMk.view.loc (V d (cV L) (jV L)) ↦[half2 256]{fullShare} wordsOf Tb (cols2 (colBase L) A))
        ∗ (sC.view.loc (V d (cV L) (jV L)) ↦[half3 0]{fullShare.left} (cols3 (colBase L) X0))
        ∗ (sS.view.loc (V d (cV L) (jV L)) ↦[half3 0]{fullShare} (movedOf (cols3 (colBase L) X0) (cols3 (colBase L) X1) (masksOf Tb (cols2 (colBase L) A))))
        ∗ (sG.view.loc (V d (cV L) (jV L)) ↦[half3 0]{fullShare} (scaledOf (cols3hi (colBase L) X2) (masksOf Tb (cols2 (colBase L) A))))
        ∗ (sC.view.loc (V d (cV L) (jV L)) ↦[half3 256]{fullShare.left} (cols3 (colBase L) X0))
        ∗ (sS.view.loc (V d (cV L) (jV L)) ↦[half3 256]{fullShare} (movedOf (cols3 (colBase L) X0) (cols3 (colBase L) X1) (masksOf Tb (cols2 (colBase L) A))))
        ∗ (sG.view.loc (V d (cV L) (jV L)) ↦[half3 256]{fullShare} (scaledOf (cols3hi (colBase L) X2) (masksOf Tb (cols2 (colBase L) A))))) := by
  rw [bigSep_twelve]
  unfold outDeliv
  dsimp only
  iintro ⟨⟨D0, S0⟩, ⟨D1, S1⟩, ⟨D2, S2⟩, ⟨D3, S3⟩, ⟨D4, S4⟩, ⟨D5, S5⟩, ⟨D6, S6⟩, ⟨D7, S7⟩, ⟨D8, S8⟩, ⟨D9, S9⟩, ⟨D10, S10⟩, ⟨D11, S11⟩⟩
  ihave D0 := (Entails.of_eq (T0l_land L d fullShare A _)) $$ D0
  ihave S0 := (Entails.of_eq (sAl_pts L d fullShare _)) $$ S0
  ihave D1 := (Entails.of_eq (T1l_land L d fullShare A _)) $$ D1
  ihave S1 := (Entails.of_eq (sAtl_pts L d fullShare _)) $$ S1
  ihave D2 := (Entails.of_eq (Mkl_land L d fullShare A Tb _)) $$ D2
  ihave S2 := (Entails.of_eq (sMkl_pts L d fullShare _)) $$ S2
  ihave D3 := (Entails.of_eq (T0h_land L d fullShare A _)) $$ D3
  ihave S3 := (Entails.of_eq (sAh_pts L d fullShare _)) $$ S3
  ihave D4 := (Entails.of_eq (T1h_land L d fullShare A _)) $$ D4
  ihave S4 := (Entails.of_eq (sAth_pts L d fullShare _)) $$ S4
  ihave D5 := (Entails.of_eq (Mkh_land L d fullShare A Tb _)) $$ D5
  ihave S5 := (Entails.of_eq (sMkh_pts L d fullShare _)) $$ S5
  ihave D6 := (Entails.of_eq (C0l_land L d fullShare X0 X1 A Tb _)) $$ D6
  ihave S6 := (Entails.of_eq (sCl_pts L d fullShare.left _)) $$ S6
  ihave D7 := (Entails.of_eq (C1l_land L d fullShare X0 X1 A Tb _)) $$ D7
  ihave S7 := (Entails.of_eq (sSl_pts L d fullShare _)) $$ S7
  ihave D8 := (Entails.of_eq (Fml_land L d fullShare A X2 Tb _)) $$ D8
  ihave S8 := (Entails.of_eq (sGl_pts L d fullShare _)) $$ S8
  ihave D9 := (Entails.of_eq (C0h_land L d fullShare X0 X1 A Tb _)) $$ D9
  ihave S9 := (Entails.of_eq (sCh_pts L d fullShare.left _)) $$ S9
  ihave D10 := (Entails.of_eq (C1h_land L d fullShare X0 X1 A Tb _)) $$ D10
  ihave S10 := (Entails.of_eq (sSh_pts L d fullShare _)) $$ S10
  ihave D11 := (Entails.of_eq (Fmh_land L d fullShare A X2 Tb _)) $$ D11
  ihave S11 := (Entails.of_eq (sGh_pts L d fullShare _)) $$ S11
  isplitl [D6 D9 D7 D10 D0 D3 D1 D4 D8 D11 D2 D5]
  · isplitl [D6]; · iexact D6
    isplitl [D9]; · iexact D9
    isplitl [D7]; · iexact D7
    isplitl [D10]; · iexact D10
    isplitl [D0]; · iexact D0
    isplitl [D3]; · iexact D3
    isplitl [D1]; · iexact D1
    isplitl [D4]; · iexact D4
    isplitl [D8]; · iexact D8
    isplitl [D11]; · iexact D11
    isplitl [D2]; · iexact D2
    iexact D5
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  iexact S11

set_option maxHeartbeats 4000000 in
/-- The tile, run from its pieces of the arrays: afterwards its pieces of the results hold the values. -/
theorem tile_body (hF : (K (F := F)).Facts) (hA8 : ∀ x, (A x).toNat < 8) (qT : PosShare TreeShare)
    (O : CellTallies nD τ sig (HIx 1)) (W : Waits sig (HIx 1)) (hO : ∀ g, O g none = 0) :
    iprop(levAts (K (F := F)).L (K (F := F)).lev ∗ iprop(emp)
        ∗ iprop(tileSrc L d X0 X1 A X2 Tb qT ∗ tileDst L d fCS fAS fFM fMK)
        ∗ scopedBufs (thr L d) ∗ scopedSems0 (thr L d) ∗ owes (thr L d) O W)
      ⊢ wp frame (wpE (defs₀ (F := F)) 𝒱₀ (thr L d) none) Set.univ (tileProg (F := F) L)
          fun _ => iprop(iprop(((hA.view.loc (thr L d) ↦[blk2 (colBase L + 0)]{fullShare} A) ∗ (hA.view.loc (thr L d) ↦[blk2 (colBase L + 256)]{fullShare} A)
              ∗ (hTab.view.loc (thr L d) ↦{qT} Tb)) ∗ tileDst L d (csAll X0 X1 A Tb) (asAll A) (fmAll A X2 Tb) (mkAll A Tb))
            ∗ scopedBufs (thr L d) ∗ scopedSems0 (thr L d) ∗ ∃ W', ⌜∀ p ∈ W', p ∈ W ∨ p.2 = none⌝ ∗ owes (thr L d) O W') := by
  unfold tileProg
  simp only [cc0__sc_body_eq_skeleton]
  unfold cc0__sc_body_skel
  simp only [k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton]
  unfold k0_part7_skel k0_part8_skel k0_part9_skel k0_part10_skel k0_part11_skel k0_part12_skel k0_part13_skel k0_part14_skel k0_part15_skel k0_part16_skel
  rw [(K (F := F)).scopedBufs_V hF d (cV L) (jV L), SparseCore.Cfg.scopedSems0_V (Val := Elt F) d (cV L) (jV L), ownSems0_V, ownBufs_V]
  iintro ⟨#Hlv, -, ⟨⟨HX0l, HX0h, HX1l, HX1h, HX2l, HX2h, HAl, HAh, HTab⟩, ⟨HC0l, HC0h, HC1l, HC1h, HT0l, HT0h, HT1l, HT1h, HFml, HFmh, HMkl, HMkh⟩⟩,
    ⟨⟨%fC, HsC⟩, ⟨%fS, HsS⟩, ⟨%fA, HsA⟩, ⟨%fG, HsG⟩, ⟨%fT, HsT⟩, ⟨%fV, HsV⟩, ⟨%fAt, HsAt⟩, ⟨%fMk, HsMk⟩, Hbufs⟩,
    ⟨Hq, Hq8, Hq9, Hq10, Hq11, Hq12, Hq13, Hq14, Hq15, Hq16, Hsems⟩, HO⟩
  ihave Hmw := ((K (F := F)).mayWaits_none (thr := thr L d) hO) $$ Hlv
  ihave Hx := (sC_split L d fC) $$ HsC
  icases Hx with ⟨HsCl, HsCh⟩
  ihave Hx := (sS_split L d fS) $$ HsS
  icases Hx with ⟨HsSl, HsSh⟩
  ihave Hx := (sA_split L d fA) $$ HsA
  icases Hx with ⟨HsAl, HsAh⟩
  ihave Hx := (sG_split L d fG) $$ HsG
  icases Hx with ⟨HsGl, HsGh⟩
  ihave Hx := (sAt_split L d fAt) $$ HsAt
  icases Hx with ⟨HsAtl, HsAth⟩
  ihave Hx := (sMk_split L d fMk) $$ HsMk
  icases Hx with ⟨HsMkl, HsMkh⟩
  ihave Hx := (sVm_split L d fV) $$ HsV
  icases Hx with ⟨HsVl, HsVh⟩
  ihave HsCl := (Entails.of_eq (sCl_pts L d fullShare _).symm) $$ HsCl
  ihave HsCh := (Entails.of_eq (sCh_pts L d fullShare _).symm) $$ HsCh
  ihave HsSl := (Entails.of_eq (sSl_pts L d fullShare _).symm) $$ HsSl
  ihave HsSh := (Entails.of_eq (sSh_pts L d fullShare _).symm) $$ HsSh
  ihave HsAl := (Entails.of_eq (sAl_pts L d fullShare _).symm) $$ HsAl
  ihave HsAh := (Entails.of_eq (sAh_pts L d fullShare _).symm) $$ HsAh
  ihave HsGl := (Entails.of_eq (sGl_pts L d fullShare _).symm) $$ HsGl
  ihave HsGh := (Entails.of_eq (sGh_pts L d fullShare _).symm) $$ HsGh
  ihave HsAtl := (Entails.of_eq (sAtl_pts L d fullShare _).symm) $$ HsAtl
  ihave HsAth := (Entails.of_eq (sAth_pts L d fullShare _).symm) $$ HsAth
  ihave HsMkl := (Entails.of_eq (sMkl_pts L d fullShare _).symm) $$ HsMkl
  ihave HsMkh := (Entails.of_eq (sMkh_pts L d fullShare _).symm) $$ HsMkh
  ihave HX0l := (Entails.of_eq (X0l_pts L d fullShare _).symm) $$ HX0l
  ihave HX0h := (Entails.of_eq (X0h_pts L d fullShare _).symm) $$ HX0h
  ihave HX1l := (Entails.of_eq (X1l_pts L d fullShare _).symm) $$ HX1l
  ihave HX1h := (Entails.of_eq (X1h_pts L d fullShare _).symm) $$ HX1h
  ihave HX2l := (Entails.of_eq (X2l_pts L d fullShare _).symm) $$ HX2l
  ihave HX2h := (Entails.of_eq (X2h_pts L d fullShare _).symm) $$ HX2h
  ihave HAl := (Entails.of_eq (Abl_pts L d fullShare _).symm) $$ HAl
  ihave HAh := (Entails.of_eq (Abh_pts L d fullShare _).symm) $$ HAh
  ihave HC0l := (Entails.of_eq (C0l_pts L d fullShare _).symm) $$ HC0l
  ihave HC0h := (Entails.of_eq (C0h_pts L d fullShare _).symm) $$ HC0h
  ihave HC1l := (Entails.of_eq (C1l_pts L d fullShare _).symm) $$ HC1l
  ihave HC1h := (Entails.of_eq (C1h_pts L d fullShare _).symm) $$ HC1h
  ihave HT0l := (Entails.of_eq (T0l_pts L d fullShare _).symm) $$ HT0l
  ihave HT0h := (Entails.of_eq (T0h_pts L d fullShare _).symm) $$ HT0h
  ihave HT1l := (Entails.of_eq (T1l_pts L d fullShare _).symm) $$ HT1l
  ihave HT1h := (Entails.of_eq (T1h_pts L d fullShare _).symm) $$ HT1h
  ihave HFml := (Entails.of_eq (Fml_pts L d fullShare _).symm) $$ HFml
  ihave HFmh := (Entails.of_eq (Fmh_pts L d fullShare _).symm) $$ HFmh
  ihave HMkl := (Entails.of_eq (Mkl_pts L d fullShare _).symm) $$ HMkl
  ihave HMkh := (Entails.of_eq (Mkh_pts L d fullShare _).symm) $$ HMkh
  ihave HsT := (show ((thr L d).loc cc0_scratch4 ↦{fullShare} fT) ⊢ (sTab.view.loc (thr L d) ↦{fullShare} fT) from .rfl) $$ HsT
  imod (Transfers.mixedBatch_alloc' (Lvl := ℕ) (countersEmb (U := UU)) (thr L d) (default : HIx 1) outAmts
    (outDeliv L d X0 X1 A X2 Tb fCS fAS fFM fMK) (sm := SemLoc.dma cc0_scratch16.sem) (E := Set.univ)) $$ Hq16 with HB
  unfold outDeliv
  sl_exec
  unfold tile_body.sl.dma0 tile_body.sl.dma0_1 tile_body.sl.dma0_2 tile_body.sl.dma0_3 tile_body.sl.dma0_4 tile_body.sl.dma0_5 tile_body.sl.dma0_6 tile_body.sl.dma0_7 tile_body.sl.dma0_8
  ihave HsT := (Entails.of_eq (congrArg (fun f => (sTab.view.loc (thr L d) ↦{fullShare} f : sProp 𝕄)) (sTab_land Tb fT))) $$ HsT
  ihave HsAl := (Entails.of_eq (sAl_land L d fullShare A fA)) $$ HsAl
  ihave HsAtl := (Entails.of_eq (sAtl_pts L d fullShare _)) $$ HsAtl
  ihave HsMkl := (Entails.of_eq (sMkl_pts L d fullShare _)) $$ HsMkl
  rw [bind_assoc]
  sl_for (fun k _ => typeInv d L 0 (cols2 (colBase L) A) Tb fV fAt fMk k) $$ [HsAl HsT HsVl HsAtl HsMkl]
  case region =>
    intro k _
    exact region1 L d _ (fun x => hA8 _) Tb fV fAt fMk k
  · iapply (typeInv_start L d 0 (cols2 (colBase L) A) Tb fV fAt fMk)
    isplitl [HsAl]; · iexact HsAl
    isplitl [HsT]; · iexact HsT
    isplitl [HsVl]; · iexact HsVl
    isplitl [HsAtl]; · iexact HsAtl
    iexact HsMkl
  iintro %_ HI
  rw [trips1']
  ihave HI := (typeInv_end L d 0 (cols2 (colBase L) A) Tb fV fAt fMk) $$ HI
  icases HI with ⟨HsAl, HsT, HsVl, HsAtl, HsMkl⟩
  ihave HsAl := (Entails.of_eq (sAl_pts L d fullShare _).symm) $$ HsAl
  ihave HsAtl := (Entails.of_eq (sAtl_pts L d fullShare _).symm) $$ HsAtl
  ihave HsMkl := (Entails.of_eq (sMkl_pts L d fullShare _).symm) $$ HsMkl
  sl_exec
  ihave HsAh := (Entails.of_eq (sAh_land L d fullShare A fA)) $$ HsAh
  ihave HsAth := (Entails.of_eq (sAth_pts L d fullShare _)) $$ HsAth
  ihave HsMkh := (Entails.of_eq (sMkh_pts L d fullShare _)) $$ HsMkh
  rw [bind_assoc]
  sl_for (fun k _ => typeInv d L 256 (cols2 (colBase L) A) Tb fV fAt fMk k) $$ [HsAh HsT HsVh HsAth HsMkh]
  case region =>
    intro k _
    exact region2 L d _ (fun x => hA8 _) Tb fV fAt fMk k
  · iapply (typeInv_start L d 256 (cols2 (colBase L) A) Tb fV fAt fMk)
    isplitl [HsAh]; · iexact HsAh
    isplitl [HsT]; · iexact HsT
    isplitl [HsVh]; · iexact HsVh
    isplitl [HsAth]; · iexact HsAth
    iexact HsMkh
  iintro %_ HI
  rw [trips2']
  ihave HI := (typeInv_end L d 256 (cols2 (colBase L) A) Tb fV fAt fMk) $$ HI
  icases HI with ⟨HsAh, HsT, HsVh, HsAth, HsMkh⟩
  ihave HsAh := (Entails.of_eq (sAh_pts L d fullShare _).symm) $$ HsAh
  ihave HsAth := (Entails.of_eq (sAth_pts L d fullShare _).symm) $$ HsAth
  ihave HsMkh := (Entails.of_eq (sMkh_pts L d fullShare _).symm) $$ HsMkh
  sl_exec
  ihave HsCl := (Entails.of_eq (sCl_land L d fullShare X0 fC)) $$ HsCl
  ihave HsCl := (pointsTo_share (PosShare.mem_left_op_right fullShare)).1 $$ HsCl
  icases HsCl with ⟨HsCl, HKl⟩
  ihave HKl := (aside _) $$ HKl
  ihave HsCl := (Entails.of_eq (sCl_pts L d fullShare.left _).symm) $$ HsCl
  iapply (issue_out L d X0 X1 A X2 Tb fCS fAS fFM fMK (C0l L) sCl fullShare.left fCS (cols3 (colBase L) X0) 6 (by decide) rfl (BI.Entails.refl _)) $$ [HsCl HC0l HB]
  · isplitl [HsCl]; · iexact HsCl
    isplitl [HC0l]; · iexact HC0l
    iexact HB
  iintro HB
  beta_reduce
  try rw [ret_then]
  try rw [then_eq]
  sl_exec
  ihave HsSl := (Entails.of_eq (sSl_land L d fullShare X1 fS)) $$ HsSl
  ihave HsGl := (Entails.of_eq (sGl_land L d fullShare X2 fG)) $$ HsGl
  ihave HKl := (unaside _) $$ HKl
  rw [bind_assoc]
  sl_for (fun k _ => vecInv d L 0 fullShare.right (masksOf Tb (cols2 (colBase L) A)) (cols3 (colBase L) X0) (cols3 (colBase L) X1) (cols3hi (colBase L) X2) (3 * k)) $$ [HsVl HKl HsSl HsGl]
  case region =>
    intro k _
    exact region3 L d _ _ _ _ _ k
  · iapply (vecInv_start L d 0 fullShare.right (masksOf Tb (cols2 (colBase L) A)) (cols3 (colBase L) X0) (cols3 (colBase L) X1) (cols3hi (colBase L) X2))
    isplitl [HsVl]; · iexact HsVl
    isplitl [HKl]; · iexact HKl
    isplitl [HsSl]; · iexact HsSl
    iexact HsGl
  iintro %_ HI
  rw [trips3']
  ihave HI := (vecInv_end L d 0 fullShare.right (masksOf Tb (cols2 (colBase L) A)) (cols3 (colBase L) X0) (cols3 (colBase L) X1) (cols3hi (colBase L) X2)) $$ HI
  icases HI with ⟨HsVl, HKl, HsSl, HsGl⟩
  ihave HKl := (aside _) $$ HKl
  ihave HsSl := (Entails.of_eq (sSl_pts L d fullShare _).symm) $$ HsSl
  ihave HsGl := (Entails.of_eq (sGl_pts L d fullShare _).symm) $$ HsGl
  iapply (issue_out L d X0 X1 A X2 Tb fCS fAS fFM fMK (C1l L) sSl fullShare fCS (movedOf (cols3 (colBase L) X0) (cols3 (colBase L) X1) (masksOf Tb (cols2 (colBase L) A))) 7 (by decide) rfl (BI.Entails.refl _)) $$ [HsSl HC1l HB]
  · isplitl [HsSl]; · iexact HsSl
    isplitl [HC1l]; · iexact HC1l
    iexact HB
  iintro HB
  beta_reduce
  try rw [ret_then]
  try rw [then_eq]
  iapply (issue_out L d X0 X1 A X2 Tb fCS fAS fFM fMK (Fml L) sGl fullShare fFM (scaledOf (cols3hi (colBase L) X2) (masksOf Tb (cols2 (colBase L) A))) 8 (by decide) rfl (BI.Entails.refl _)) $$ [HsGl HFml HB]
  · isplitl [HsGl]; · iexact HsGl
    isplitl [HFml]; · iexact HFml
    iexact HB
  iintro HB
  beta_reduce
  try rw [ret_then]
  try rw [then_eq]
  sl_exec
  ihave HsCh := (Entails.of_eq (sCh_land L d fullShare X0 fC)) $$ HsCh
  ihave HsCh := (pointsTo_share (PosShare.mem_left_op_right fullShare)).1 $$ HsCh
  icases HsCh with ⟨HsCh, HKh⟩
  ihave HKh := (aside _) $$ HKh
  ihave HsCh := (Entails.of_eq (sCh_pts L d fullShare.left _).symm) $$ HsCh
  iapply (issue_out L d X0 X1 A X2 Tb fCS fAS fFM fMK (C0h L) sCh fullShare.left fCS (cols3 (colBase L) X0) 9 (by decide) rfl (BI.Entails.refl _)) $$ [HsCh HC0h HB]
  · isplitl [HsCh]; · iexact HsCh
    isplitl [HC0h]; · iexact HC0h
    iexact HB
  iintro HB
  beta_reduce
  try rw [ret_then]
  try rw [then_eq]
  sl_exec
  ihave HsSh := (Entails.of_eq (sSh_land L d fullShare X1 fS)) $$ HsSh
  ihave HsGh := (Entails.of_eq (sGh_land L d fullShare X2 fG)) $$ HsGh
  ihave HKh := (unaside _) $$ HKh
  rw [bind_assoc]
  sl_for (fun k _ => vecInv d L 256 fullShare.right (masksOf Tb (cols2 (colBase L) A)) (cols3 (colBase L) X0) (cols3 (colBase L) X1) (cols3hi (colBase L) X2) (3 * k)) $$ [HsVh HKh HsSh HsGh]
  case region =>
    intro k _
    exact region4 L d _ _ _ _ _ k
  · iapply (vecInv_start L d 256 fullShare.right (masksOf Tb (cols2 (colBase L) A)) (cols3 (colBase L) X0) (cols3 (colBase L) X1) (cols3hi (colBase L) X2))
    isplitl [HsVh]; · iexact HsVh
    isplitl [HKh]; · iexact HKh
    isplitl [HsSh]; · iexact HsSh
    iexact HsGh
  iintro %_ HI
  rw [trips4']
  ihave HI := (vecInv_end L d 256 fullShare.right (masksOf Tb (cols2 (colBase L) A)) (cols3 (colBase L) X0) (cols3 (colBase L) X1) (cols3hi (colBase L) X2)) $$ HI
  icases HI with ⟨HsVh, HKh, HsSh, HsGh⟩
  ihave HKh := (aside _) $$ HKh
  ihave HsSh := (Entails.of_eq (sSh_pts L d fullShare _).symm) $$ HsSh
  ihave HsGh := (Entails.of_eq (sGh_pts L d fullShare _).symm) $$ HsGh
  iapply (issue_out L d X0 X1 A X2 Tb fCS fAS fFM fMK (C1h L) sSh fullShare fCS (movedOf (cols3 (colBase L) X0) (cols3 (colBase L) X1) (masksOf Tb (cols2 (colBase L) A))) 10 (by decide) rfl (BI.Entails.refl _)) $$ [HsSh HC1h HB]
  · isplitl [HsSh]; · iexact HsSh
    isplitl [HC1h]; · iexact HC1h
    iexact HB
  iintro HB
  beta_reduce
  try rw [ret_then]
  try rw [then_eq]
  iapply (issue_out L d X0 X1 A X2 Tb fCS fAS fFM fMK (Fmh L) sGh fullShare fFM (scaledOf (cols3hi (colBase L) X2) (masksOf Tb (cols2 (colBase L) A))) 11 (by decide) rfl (BI.Entails.refl _)) $$ [HsGh HFmh HB]
  · isplitl [HsGh]; · iexact HsGh
    isplitl [HFmh]; · iexact HFmh
    iexact HB
  iintro HB
  beta_reduce
  try rw [ret_then]
  try rw [then_eq]
  set_option sl_exec.maxSteps 6 in sl_exec
  iapply (wait_out L d X0 X1 A X2 Tb fCS fAS fFM fMK (C0l L) sCl 393216 (by decide) O _) $$ [HB HO]
  · isplitl [HB]; · iexact HB
    isplitl [HO]; · iexact HO
    iapply ((K (F := F)).mayWait_none (thr := thr L d) _ hO) $$ Hlv
  iintro ⟨HB, HO⟩
  iapply (wait_out L d X0 X1 A X2 Tb fCS fAS fFM fMK (C1l L) sSl 589824 (by decide) O _) $$ [HB HO]
  · isplitl [HB]; · iexact HB
    isplitl [HO]; · iexact HO
    iapply ((K (F := F)).mayWait_none (thr := thr L d) _ hO) $$ Hlv
  iintro ⟨HB, HO⟩
  iapply (wait_out L d X0 X1 A X2 Tb fCS fAS fFM fMK (Fml L) sGl 786432 (by decide) O _) $$ [HB HO]
  · isplitl [HB]; · iexact HB
    isplitl [HO]; · iexact HO
    iapply ((K (F := F)).mayWait_none (thr := thr L d) _ hO) $$ Hlv
  iintro ⟨HB, HO⟩
  iapply (wait_out L d X0 X1 A X2 Tb fCS fAS fFM fMK (C0h L) sCh 983040 (by decide) O _) $$ [HB HO]
  · isplitl [HB]; · iexact HB
    isplitl [HO]; · iexact HO
    iapply ((K (F := F)).mayWait_none (thr := thr L d) _ hO) $$ Hlv
  iintro ⟨HB, HO⟩
  iapply (wait_out L d X0 X1 A X2 Tb fCS fAS fFM fMK (C1h L) sSh 1179648 (by decide) O _) $$ [HB HO]
  · isplitl [HB]; · iexact HB
    isplitl [HO]; · iexact HO
    iapply ((K (F := F)).mayWait_none (thr := thr L d) _ hO) $$ Hlv
  iintro ⟨HB, HO⟩
  iapply (wait_last L d X0 X1 A X2 Tb fCS fAS fFM fMK (Fmh L) sGh O _) $$ [HB HO]
  · isplitl [HB]; · iexact HB
    isplitl [HO]; · iexact HO
    iapply ((K (F := F)).mayWait_none (thr := thr L d) _ hO) $$ Hlv
  iintro ⟨HB, Hq16, HO⟩
  beta_reduce
  rw [ret_then, Prog.pure_eq_ret, wp_ret]
  imodintro
  ihave HB := (out_all L d X0 X1 A X2 Tb fCS fAS fFM fMK) $$ HB
  icases HB with ⟨HR, HsAl, HsAtl, HsMkl, HsAh, HsAth, HsMkh, HsCl, HsSl, HsGl, HsCh, HsSh, HsGh⟩
  ihave HKl := (unaside _) $$ HKl
  ihave HKh := (unaside _) $$ HKh
  ihave HsCl := (pointsTo_share (PosShare.mem_left_op_right fullShare)).2 $$ [HsCl HKl]
  · isplitl [HsCl] <;> iassumption
  ihave HsCh := (pointsTo_share (PosShare.mem_left_op_right fullShare)).2 $$ [HsCh HKh]
  · isplitl [HsCh] <;> iassumption
  ihave HAl := (Entails.of_eq (Abl_pts L d fullShare _)) $$ HAl
  ihave HAh := (Entails.of_eq (Abh_pts L d fullShare _)) $$ HAh
  ihave HsC := (sC_join L d _ _) $$ [HsCl HsCh]
  · isplitl [HsCl] <;> iassumption
  ihave HsS := (sS_join L d _ _) $$ [HsSl HsSh]
  · isplitl [HsSl] <;> iassumption
  ihave HsA := (sA_join L d _ _) $$ [HsAl HsAh]
  · isplitl [HsAl] <;> iassumption
  ihave HsG := (sG_join L d _ _) $$ [HsGl HsGh]
  · isplitl [HsGl] <;> iassumption
  ihave HsAt := (sAt_join L d _ _) $$ [HsAtl HsAth]
  · isplitl [HsAtl] <;> iassumption
  ihave HsMk := (sMk_join L d _ _) $$ [HsMkl HsMkh]
  · isplitl [HsMkl] <;> iassumption
  ihave HsV := (sVm_join L d _ _) $$ [HsVl HsVh]
  · isplitl [HsVl] <;> iassumption
  isplitl [HAl HAh HTab HR]
  · isplitl [HAl HAh HTab]
    · isplitl [HAl]; · iexact HAl
      isplitl [HAh] <;> iassumption
    · iexact HR
  isplitl [HsC HsS HsA HsG HsT HsV HsAt HsMk Hbufs]
  · isplitl [HsC]; · iexact HsC
    isplitl [HsS]; · iexact HsS
    isplitl [HsA]; · iexact HsA
    isplitl [HsG]; · iexact HsG
    isplitl [HsT]
    · iexists Tb
      iexact HsT
    isplitl [HsV]; · iexact HsV
    isplitl [HsAt]; · iexact HsAt
    isplitl [HsMk]; · iexact HsMk
    iexact Hbufs
  isplitl [Hq Hq8 Hq9 Hq10 Hq11 Hq12 Hq13 Hq14 Hq15 Hq16 Hsems]
  · isplitl [Hq]; · iexact Hq
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    iexact Hsems
  iexists _
  isplitr [HO]
  rotate_left
  · iexact HO
  ipureintro
  intro p hp
  simp only [Finset.mem_insert] at hp
  rcases hp with rfl | rfl | rfl | rfl | rfl | rfl | rfl | rfl | rfl | rfl | rfl | rfl | rfl | rfl | rfl | rfl | rfl | rfl | rfl | rfl | rfl | hp
  all_goals first
    | exact .inl hp
    | exact .inr rfl

end Cert.Proof.Spin
-- ==== Proof.Launch.lean ====
/-
  The launch of the call: how the arrays are dealt to the thirty-two tiles and collected again, what the handshakes
  carry, and the tile's obligation.
-/
module

public import proofs.«01_k».proof.Proof.Tile

@[expose] public section

noncomputable section

namespace Cert.Proof.Spin

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

abbrev v₀ : 𝒱.V := Sum.inl none

/-- The grid point of a SparseCore's subcore. -/
def coordsV (c : Fin (grid0.bound 0)) (s : Fin (grid0.bound 1)) : grid0.Coords :=
  fun | 0 => c | 1 => s | ⟨_ + 2, h⟩ => absurd h (Nat.not_lt.2 (Nat.le_add_left _ _))

abbrev tl (c : Fin 2) (i : Fin 16) : grid0.Coords := coordsV c i

theorem colBase_tl (c : Fin 2) (i : Fin 16) : colBase (tl c i) = 8192 * c.val + 512 * i.val := rfl

theorem defs₀_vector (c : Fin τ.nSC) (s : Fin τ.nSub) :
    defs₀ (F := F) (.scVector c s) 0 () = SparseCore.onTile hcore0 hsub0 (fun c s => tileProg (F := F) (coordsV c s)) ⟨⟩ c s := rfl

/-! ## Dealing an array to the tiles -/

/-- Everything the tiles hold, tile by tile. -/
abbrev tiles (Φ : Fin 2 → Fin 16 → sProp 𝕄) : sProp 𝕄 := bigSep Finset.univ fun c : Fin 2 => bigSep Finset.univ fun i : Fin 16 => Φ c i

theorem tiles_sep (Φ Ψ : Fin 2 → Fin 16 → sProp 𝕄) : tiles (fun c i => iprop(Φ c i ∗ Ψ c i)) = iprop(tiles Φ ∗ tiles Ψ) := by
  unfold tiles
  simp only [bigSep_sep']

theorem deal {n : ℕ} (ℓ : Loc nD τ sig) (B : Fin 2 → Fin 16 → Fin n → Finset (Idx ℓ))
    (hd : ∀ c i h c' i' h' x, x ∈ B c i h → x ∈ B c' i' h' → c = c' ∧ i = i' ∧ h = h') (hc : ∀ x, ∃ c i h, x ∈ B c i h)
    (q : PosShare TreeShare) (f : Buf (Elt F) ℓ) :
    (ℓ ↦{q} f : sProp 𝕄) = tiles fun c i => bigSep Finset.univ fun h => ℓ ↦[B c i h]{q} f := by
  classical
  have e := pointsTo_biUnion (Ix := HIx 1) (Val := Elt F) (Name := ℕ) (U := UU) (Lvl := ℕ) (ℓ := ℓ) (q := q) (f := f) (Finset.univ : Finset (Fin 2 × Fin 16 × Fin n)) (fun t => B t.1 t.2.1 t.2.2)
    (fun t _ t' _ ht => Finset.disjoint_left.mpr fun x hx hx' => ht (by
      obtain ⟨h1, h2, h3⟩ := hd _ _ _ _ _ _ x hx hx'
      exact Prod.ext h1 (Prod.ext h2 h3)))
  have hu : (Finset.univ : Finset (Fin 2 × Fin 16 × Fin n)).biUnion (fun t => B t.1 t.2.1 t.2.2) = Finset.univ := by
    ext x
    obtain ⟨c, i, h, hx⟩ := hc x
    simp only [Finset.mem_biUnion, Finset.mem_univ, true_and, iff_true]
    exact ⟨(c, i, h), hx⟩
  rw [hu] at e
  rw [e, bigSep_univ_prod]
  exact bigSep_congr fun c _ => by rw [bigSep_univ_prod]

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} from by decide, SparseCore.bigSep_insert' (by decide), SparseCore.bigSep_insert' (by decide),
    SparseCore.bigSep_insert' (by decide), bigSep_singleton]

/-- The first columns of a tile's blocks from its own first column `b`. -/
def at2 (b : ℕ) : Fin 2 → ℕ | 0 => b + 0 | 1 => b + 256
def at4 (b : ℕ) : Fin 4 → ℕ | 0 => b + 0 | 1 => b + 256 | 2 => b + 0 + 16384 | 3 => b + 256 + 16384

theorem at2_inj {c c' : Fin 2} {i i' : Fin 16} {h h' : Fin 2} {y : ℕ} (e : at2 (colBase (tl c i)) h ≤ y ∧ y < at2 (colBase (tl c i)) h + 256)
    (e' : at2 (colBase (tl c' i')) h' ≤ y ∧ y < at2 (colBase (tl c' i')) h' + 256) : c = c' ∧ i = i' ∧ h = h' := by
  rw [colBase_tl] at e e'
  have := c.isLt; have := c'.isLt; have := i.isLt; have := i'.isLt
  fin_cases h <;> fin_cases h' <;> simp only [at2] at e e' <;>
    first
      | exact ⟨Fin.ext (by omega), Fin.ext (by omega), rfl⟩
      | (exfalso; omega)

theorem at2_cover {y : ℕ} (hy : y < 16384) : ∃ (c : Fin 2) (i : Fin 16) (h : Fin 2), at2 (colBase (tl c i)) h ≤ y ∧ y < at2 (colBase (tl c i)) h + 256 := by
  refine ⟨⟨y / 8192, by omega⟩, ⟨y % 8192 / 512, by omega⟩, ?_⟩
  rw [colBase_tl]
  by_cases hh : y % 512 < 256
  · refine ⟨0, ?_⟩; simp only [at2]; omega
  · refine ⟨1, ?_⟩; simp only [at2]; omega

theorem at4_inj {c c' : Fin 2} {i i' : Fin 16} {h h' : Fin 4} {y : ℕ} (e : at4 (colBase (tl c i)) h ≤ y ∧ y < at4 (colBase (tl c i)) h + 256)
    (e' : at4 (colBase (tl c' i')) h' ≤ y ∧ y < at4 (colBase (tl c' i')) h' + 256) : c = c' ∧ i = i' ∧ h = h' := by
  rw [colBase_tl] at e e'
  have := c.isLt; have := c'.isLt; have := i.isLt; have := i'.isLt
  fin_cases h <;> fin_cases h' <;> simp only [at4] at e e' <;>
    first
      | exact ⟨Fin.ext (by omega), Fin.ext (by omega), rfl⟩
      | (exfalso; omega)

theorem at4_cover {y : ℕ} (hy : y < 32768) : ∃ (c : Fin 2) (i : Fin 16) (h : Fin 4), at4 (colBase (tl c i)) h ≤ y ∧ y < at4 (colBase (tl c i)) h + 256 := by
  refine ⟨⟨y % 16384 / 8192, by omega⟩, ⟨y % 8192 / 512, by omega⟩, ?_⟩
  rw [colBase_tl]
  by_cases h1 : y < 16384 <;> by_cases hh : y % 512 < 256
  · refine ⟨0, ?_⟩; simp only [at4]; omega
  · refine ⟨1, ?_⟩; simp only [at4]; omega
  · refine ⟨2, ?_⟩; simp only [at4]; omega
  · refine ⟨3, ?_⟩; simp only [at4]; omega

section Arrays

variable (d : Dev nD)

abbrev gX0 (d : Dev nD) : Loc nD τ sig := (SparseCore.T d).loc main_v0
abbrev gX1 (d : Dev nD) : Loc nD τ sig := (SparseCore.T d).loc main_v1
abbrev gX2 (d : Dev nD) : Loc nD τ sig := (SparseCore.T d).loc main_v2
abbrev gA (d : Dev nD) : Loc nD τ sig := (SparseCore.T d).loc main_arg1
abbrev gTab (d : Dev nD) : Loc nD τ sig := (SparseCore.T d).loc main_arg4
abbrev gCS (d : Dev nD) : Loc nD τ sig := (SparseCore.T d).loc main_v3_0
abbrev gAS (d : Dev nD) : Loc nD τ sig := (SparseCore.T d).loc main_v3_1
abbrev gFM (d : Dev nD) : Loc nD τ sig := (SparseCore.T d).loc main_v3_2
abbrev gMK (d : Dev nD) : Loc nD τ sig := (SparseCore.T d).loc main_v3_3

theorem deal_x0 (f : S3x8x16384.Idx → F .f32) : (gX0 d ↦{fullShare} f : sProp 𝕄) = tiles fun c i =>
    iprop((hX0.view.loc (thr (tl c i) d) ↦[blk3 (colBase (tl c i) + 0)]{fullShare} f) ∗ (hX0.view.loc (thr (tl c i) d) ↦[blk3 (colBase (tl c i) + 256)]{fullShare} f)) := by
  rw [deal (gX0 d) (fun c i h => blk3 (at2 (colBase (tl c i)) h)) (fun c i h c' i' h' x hx hx' => at2_inj (Finset.mem_filter.mp hx).2 (Finset.mem_filter.mp hx').2)
    (fun x => by
      obtain ⟨c, i, h, e⟩ := at2_cover (y := (x 2).val) (x 2).isLt
      exact ⟨c, i, h, Finset.mem_filter.mpr ⟨Finset.mem_univ _, e⟩⟩)]
  exact bigSep_congr fun c _ => bigSep_congr fun i _ => BI.bigSep_fin_two _

theorem deal_x1 (f : S3x8x16384.Idx → F .f32) : (gX1 d ↦{fullShare} f : sProp 𝕄) = tiles fun c i =>
    iprop((hX1.view.loc (thr (tl c i) d) ↦[blk3 (colBase (tl c i) + 0)]{fullShare} f) ∗ (hX1.view.loc (thr (tl c i) d) ↦[blk3 (colBase (tl c i) + 256)]{fullShare} f)) := by
  rw [deal (gX1 d) (fun c i h => blk3 (at2 (colBase (tl c i)) h)) (fun c i h c' i' h' x hx hx' => at2_inj (Finset.mem_filter.mp hx).2 (Finset.mem_filter.mp hx').2)
    (fun x => by
      obtain ⟨c, i, h, e⟩ := at2_cover (y := (x 2).val) (x 2).isLt
      exact ⟨c, i, h, Finset.mem_filter.mpr ⟨Finset.mem_univ _, e⟩⟩)]
  exact bigSep_congr fun c _ => bigSep_congr fun i _ => BI.bigSep_fin_two _

theorem deal_fm (f : S3x8x16384.Idx → F .f32) : (gFM d ↦{fullShare} f : sProp 𝕄) = tiles fun c i =>
    iprop((hFM.view.loc (thr (tl c i) d) ↦[blk3 (colBase (tl c i) + 0)]{fullShare} f) ∗ (hFM.view.loc (thr (tl c i) d) ↦[blk3 (colBase (tl c i) + 256)]{fullShare} f)) := by
  rw [deal (gFM d) (fun c i h => blk3 (at2 (colBase (tl c i)) h)) (fun c i h c' i' h' x hx hx' => at2_inj (Finset.mem_filter.mp hx).2 (Finset.mem_filter.mp hx').2)
    (fun x => by
      obtain ⟨c, i, h, e⟩ := at2_cover (y := (x 2).val) (x 2).isLt
      exact ⟨c, i, h, Finset.mem_filter.mpr ⟨Finset.mem_univ _, e⟩⟩)]
  exact bigSep_congr fun c _ => bigSep_congr fun i _ => BI.bigSep_fin_two _

theorem deal_a (f : S8x16384.Idx → BitVec 32) : (gA d ↦{fullShare} f : sProp 𝕄) = tiles fun c i =>
    iprop((hA.view.loc (thr (tl c i) d) ↦[blk2 (colBase (tl c i) + 0)]{fullShare} f) ∗ (hA.view.loc (thr (tl c i) d) ↦[blk2 (colBase (tl c i) + 256)]{fullShare} f)) := by
  rw [deal (gA d) (fun c i h => blk2 (at2 (colBase (tl c i)) h)) (fun c i h c' i' h' x hx hx' => at2_inj (Finset.mem_filter.mp hx).2 (Finset.mem_filter.mp hx').2)
    (fun x => by
      obtain ⟨c, i, h, e⟩ := at2_cover (y := (x 1).val) (x 1).isLt
      exact ⟨c, i, h, Finset.mem_filter.mpr ⟨Finset.mem_univ _, e⟩⟩)]
  exact bigSep_congr fun c _ => bigSep_congr fun i _ => BI.bigSep_fin_two _

theorem deal_mk (f : S8x16384.Idx → BitVec 32) : (gMK d ↦{fullShare} f : sProp 𝕄) = tiles fun c i =>
    iprop((hMK.view.loc (thr (tl c i) d) ↦[blk2 (colBase (tl c i) + 0)]{fullShare} f) ∗ (hMK.view.loc (thr (tl c i) d) ↦[blk2 (colBase (tl c i) + 256)]{fullShare} f)) := by
  rw [deal (gMK d) (fun c i h => blk2 (at2 (colBase (tl c i)) h)) (fun c i h c' i' h' x hx hx' => at2_inj (Finset.mem_filter.mp hx).2 (Finset.mem_filter.mp hx').2)
    (fun x => by
      obtain ⟨c, i, h, e⟩ := at2_cover (y := (x 1).val) (x 1).isLt
      exact ⟨c, i, h, Finset.mem_filter.mpr ⟨Finset.mem_univ _, e⟩⟩)]
  exact bigSep_congr fun c _ => bigSep_congr fun i _ => BI.bigSep_fin_two _

theorem deal_x2 (f : S3x8x32768.Idx → F .f32) : (gX2 d ↦{fullShare} f : sProp 𝕄) = tiles fun c i =>
    iprop((hX2.view.loc (thr (tl c i) d) ↦[blk3 (colBase (tl c i) + 0)]{fullShare} f) ∗ (hX2.view.loc (thr (tl c i) d) ↦[blk3 (colBase (tl c i) + 256)]{fullShare} f)
      ∗ (hX2.view.loc (thr (tl c i) d) ↦[blk3 (colBase (tl c i) + 0 + 16384)]{fullShare} f) ∗ (hX2.view.loc (thr (tl c i) d) ↦[blk3 (colBase (tl c i) + 256 + 16384)]{fullShare} f)) := by
  rw [deal (gX2 d) (fun c i h => blk3 (at4 (colBase (tl c i)) h)) (fun c i h c' i' h' x hx hx' => at4_inj (Finset.mem_filter.mp hx).2 (Finset.mem_filter.mp hx').2)
    (fun x => by
      obtain ⟨c, i, h, e⟩ := at4_cover (y := (x 2).val) (x 2).isLt
      exact ⟨c, i, h, Finset.mem_filter.mpr ⟨Finset.mem_univ _, e⟩⟩)]
  exact bigSep_congr fun c _ => bigSep_congr fun i _ => bigSep_four _

theorem deal_cs (f : S3x8x32768.Idx → F .f32) : (gCS d ↦{fullShare} f : sProp 𝕄) = tiles fun c i =>
    iprop((hCS.view.loc (thr (tl c i) d) ↦[blk3 (colBase (tl c i) + 0)]{fullShare} f) ∗ (hCS.view.loc (thr (tl c i) d) ↦[blk3 (colBase (tl c i) + 256)]{fullShare} f)
      ∗ (hCS.view.loc (thr (tl c i) d) ↦[blk3 (colBase (tl c i) + 0 + 16384)]{fullShare} f) ∗ (hCS.view.loc (thr (tl c i) d) ↦[blk3 (colBase (tl c i) + 256 + 16384)]{fullShare} f)) := by
  rw [deal (gCS d) (fun c i h => blk3 (at4 (colBase (tl c i)) h)) (fun c i h c' i' h' x hx hx' => at4_inj (Finset.mem_filter.mp hx).2 (Finset.mem_filter.mp hx').2)
    (fun x => by
      obtain ⟨c, i, h, e⟩ := at4_cover (y := (x 2).val) (x 2).isLt
      exact ⟨c, i, h, Finset.mem_filter.mpr ⟨Finset.mem_univ _, e⟩⟩)]
  exact bigSep_congr fun c _ => bigSep_congr fun i _ => bigSep_four _

theorem deal_as (f : S8x32768.Idx → BitVec 32) : (gAS d ↦{fullShare} f : sProp 𝕄) = tiles fun c i =>
    iprop((hAS.view.loc (thr (tl c i) d) ↦[blk2 (colBase (tl c i) + 0)]{fullShare} f) ∗ (hAS.view.loc (thr (tl c i) d) ↦[blk2 (colBase (tl c i) + 256)]{fullShare} f)
      ∗ (hAS.view.loc (thr (tl c i) d) ↦[blk2 (colBase (tl c i) + 0 + 16384)]{fullShare} f) ∗ (hAS.view.loc (thr (tl c i) d) ↦[blk2 (colBase (tl c i) + 256 + 16384)]{fullShare} f)) := by
  rw [deal (gAS d) (fun c i h => blk2 (at4 (colBase (tl c i)) h)) (fun c i h c' i' h' x hx hx' => at4_inj (Finset.mem_filter.mp hx).2 (Finset.mem_filter.mp hx').2)
    (fun x => by
      obtain ⟨c, i, h, e⟩ := at4_cover (y := (x 1).val) (x 1).isLt
      exact ⟨c, i, h, Finset.mem_filter.mpr ⟨Finset.mem_univ _, e⟩⟩)]
  exact bigSep_congr fun c _ => bigSep_congr fun i _ => bigSep_four _

/-- A tile's share of the table; what of the table stays behind. -/
def qT (c : Fin 2) (i : Fin 16) : PosShare TreeShare := Transfers.shareTok (Transfers.shareTok fullShare 2 c) 16 i
abbrev tabRest (f : Vec F S8 .f32) : sProp 𝕄 :=
  iprop((gTab d ↦{Transfers.shareDrop fullShare 2} f) ∗ bigSep Finset.univ fun c : Fin 2 => gTab d ↦{Transfers.shareDrop (Transfers.shareTok fullShare 2 c) 16} f)

/-- The second dealing of the table, among a SparseCore's subcores. -/
theorem tab_cores (f : Vec F S8 .f32) : (bigSep Finset.univ fun c : Fin 2 => (gTab d ↦{Transfers.shareTok fullShare 2 c} f : sProp 𝕄))
    ⊣⊢ iprop((bigSep Finset.univ fun c : Fin 2 => gTab d ↦{Transfers.shareDrop (Transfers.shareTok fullShare 2 c) 16} f)
        ∗ tiles fun c i => hTab.view.loc (thr (tl c i) d) ↦{qT c i} f) := by
  unfold tiles
  rw [← bigSep_sep']
  exact ⟨BI.bigSep_mono fun c _ => (Transfers.pointsTo_toks (Transfers.shareTok fullShare 2 c) 16).1,
    BI.bigSep_mono fun c _ => (Transfers.pointsTo_toks (Transfers.shareTok fullShare 2 c) 16).2⟩

theorem deal_tab (f : Vec F S8 .f32) : (gTab d ↦{fullShare} f : sProp 𝕄) ⊢ iprop(tabRest d f ∗ tiles fun c i => hTab.view.loc (thr (tl c i) d) ↦{qT c i} f) := by
  iintro H
  ihave H := (Transfers.pointsTo_toks_split fullShare 2) $$ H
  icases H with ⟨H0, H⟩
  ihave H := (tab_cores d f).1 $$ H
  icases H with ⟨H1, H⟩
  isplitl [H0 H1]
  · isplitl [H0]; · iexact H0
    iexact H1
  iexact H

theorem gather_tab (f : Vec F S8 .f32) : iprop(tabRest d f ∗ tiles fun c i => hTab.view.loc (thr (tl c i) d) ↦{qT c i} f) ⊢ (gTab d ↦{fullShare} f : sProp 𝕄) := by
  iintro ⟨⟨H0, H1⟩, H⟩
  iapply (Transfers.pointsTo_toks_join fullShare 2)
  isplitl [H0]; · iexact H0
  iapply (tab_cores d f).2
  isplitl [H1]; · iexact H1
  iexact H

end Arrays

/-! ## What the handshakes carry -/

section Pay

variable (m : (ℓ : Loc nD τ sig) → Buf (Elt F) ℓ)

/-- The arrays the call reads and those it is to fill, as the launch memory determines them. -/
def vX0 (d : Dev nD) : S3x8x16384.Idx → F .f32 := transpose S3x8x16384 [2, 0, 1] (m ((SparseCore.T d).loc main_arg0)) transposes_S8x16384x3_S3x8x16384_2_0_1
def vX1 (d : Dev nD) : S3x8x16384.Idx → F .f32 := transpose S3x8x16384 [2, 0, 1] (m ((SparseCore.T d).loc main_arg2)) transposes_S8x16384x3_S3x8x16384_2_0_1
def vX2 (d : Dev nD) : S3x8x32768.Idx → F .f32 := transpose S3x8x32768 [2, 0, 1] (m ((SparseCore.T d).loc main_arg3)) transposes_S8x32768x3_S3x8x32768_2_0_1
abbrev vA (d : Dev nD) : S8x16384.Idx → BitVec 32 := m (gA d)
abbrev vTab (d : Dev nD) : Vec F S8 .f32 := m (gTab d)

/-- What a tile is given and what it gives back. -/
def goT (d : Dev nD) (c : Fin 2) (i : Fin 16) : sProp 𝕄 :=
  iprop(tileSrc (tl c i) d (vX0 m d) (vX1 m d) (vA m d) (vX2 m d) (vTab m d) (qT c i)
    ∗ tileDst (tl c i) d (m (gCS d)) (m (gAS d)) (m (gFM d)) (m (gMK d)))
abbrev backSrc (d : Dev nD) (c : Fin 2) (i : Fin 16) : sProp 𝕄 :=
  iprop((hA.view.loc (thr (tl c i) d) ↦[blk2 (colBase (tl c i) + 0)]{fullShare} vA m d) ∗ (hA.view.loc (thr (tl c i) d) ↦[blk2 (colBase (tl c i) + 256)]{fullShare} vA m d)
    ∗ (hTab.view.loc (thr (tl c i) d) ↦{qT c i} vTab m d))
def tdT (d : Dev nD) (c : Fin 2) (i : Fin 16) : sProp 𝕄 :=
  iprop(backSrc m d c i ∗ tileDst (tl c i) d (csAll (vX0 m d) (vX1 m d) (vA m d) (vTab m d)) (asAll (vA m d)) (fmAll (vA m d) (vX2 m d) (vTab m d)) (mkAll (vA m d) (vTab m d)))

/-- The same for a SparseCore: its subcores' parts. -/
def stT (d : Dev nD) (c : Fin 2) : sProp 𝕄 := bigSep Finset.univ fun i : Fin 16 => goT m d c i
def dnT (d : Dev nD) (c : Fin 2) : sProp 𝕄 := bigSep Finset.univ fun i : Fin 16 => tdT m d c i

instance goT_storable (d : Dev nD) (c : Fin 2) (i : Fin 16) : BI.Storable (upEmb : UEmb _ 𝕄) (goT m d c i) := by unfold goT; infer_instance
instance tdT_storable (d : Dev nD) (c : Fin 2) (i : Fin 16) : BI.Storable (upEmb : UEmb _ 𝕄) (tdT m d c i) := by unfold tdT; infer_instance
instance stT_storable (d : Dev nD) (c : Fin 2) : BI.Storable (upEmb : UEmb _ 𝕄) (stT m d c) := by unfold stT; infer_instance
instance dnT_storable (d : Dev nD) (c : Fin 2) : BI.Storable (upEmb : UEmb _ 𝕄) (dnT m d c) := by unfold dnT; infer_instance

def P : (K (F := F)).Pay (nD := nD) (Val := Elt F) (Name := ℕ) (U := UU) where
  st := fun q d c => match q with | 0 => stT m d (Fin.cast nCore_zero c)
  dn := fun q d c => match q with | 0 => dnT m d (Fin.cast nCore_zero c)
  go := fun q d c i => match q with | 0 => goT m d (Fin.cast nCore_zero c) (Fin.cast nSub_zero i)
  td := fun q d c i => match q with | 0 => tdT m d (Fin.cast nCore_zero c) (Fin.cast nSub_zero i)
  x := fun _ _ => iprop(emp)

theorem P_st (d : Dev nD) (c : Fin ((K (F := F)).nCore 0)) : (P (F := F) m).st 0 d c = stT m d (Fin.cast nCore_zero c) := by
  unfold P; dsimp only
theorem P_dn (d : Dev nD) (c : Fin ((K (F := F)).nCore 0)) : (P (F := F) m).dn 0 d c = dnT m d (Fin.cast nCore_zero c) := by
  unfold P; dsimp only
theorem P_go (d : Dev nD) (c : Fin ((K (F := F)).nCore 0)) (i : Fin ((K (F := F)).nSub 0)) :
    (P (F := F) m).go 0 d c i = goT m d (Fin.cast nCore_zero c) (Fin.cast nSub_zero i) := by
  unfold P; dsimp only
theorem P_td (d : Dev nD) (c : Fin ((K (F := F)).nCore 0)) (i : Fin ((K (F := F)).nSub 0)) :
    (P (F := F) m).td 0 d c i = tdT m d (Fin.cast nCore_zero c) (Fin.cast nSub_zero i) := by
  unfold P; dsimp only

instance P_storable : (P (F := F) m).IsStorable where
  st q d c := by
    obtain rfl : q = 0 := Subsingleton.elim _ _
    rw [P_st]; exact stT_storable m d _
  dn q d c := by
    obtain rfl : q = 0 := Subsingleton.elim _ _
    rw [P_dn]; exact dnT_storable m d _
  go q d c i := by
    obtain rfl : q = 0 := Subsingleton.elim _ _
    rw [P_go]; exact goT_storable m d _ _
  td q d c i := by
    obtain rfl : q = 0 := Subsingleton.elim _ _
    rw [P_td]; exact tdT_storable m d _ _

/-- What the run asks of the launch memory: every atom type below eight. -/
def PreOK : Prop := ∀ (d : Dev nD) (x : S8x16384.Idx), (vA m d x).toNat < 8

theorem obl_post {th : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes th O W')
      ⊢ iprop(A ∗ B ∗ C ∗ ∃ W', ⌜∀ p ∈ W', p ∈ W ∨ p.2 = none ∨ p.2 = some q⌝ ∗ owes th O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (coordsV ⟨_, hc.1⟩ ⟨_, hc.2⟩) d (vX0 m d) (vX1 m d) (vA m d) (vX2 m d) (vTab m d) (m (gCS d)) (m (gAS d)) (m (gFM d)) (m (gMK d))
    launchFacts (hpre d) (qT ⟨_, hc.1⟩ ⟨_, hc.2⟩) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  simp only [P_st, P_dn, P_go, P_td]
  rw [bigSep_tasks (F := F) (fun i => goT m d (Fin.cast nCore_zero c) i), bigSep_tasks (F := F) (fun i => tdT m d (Fin.cast nCore_zero c) i)]
  unfold stT dnT
  iintro H; imodintro
  isplitl [H]; · iexact H
  iintro H; iexact H

theorem bigSep_emp' {I : Type} (s : Finset I) : (bigSep s fun _ => iprop(emp)) = (iprop(emp) : sProp 𝕄) := bigSep_emp_const s

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun th : Thread nD τ => bigSep Finset.univ fun q : Fin 1 => (P m).x q th) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun th : Thread nD τ => bigSep Finset.univ fun q : Fin 1 => (P (F := F) m).x q th) = bigSep Finset.univ fun _ => iprop(emp) from
    bigSep_congr fun _ _ => bigSep_univ_of_subsingleton (0 : Fin 1), bigSep_emp']
  iempintro

/-! ## The call's start and end, from the TensorCore's side -/

theorem st0_eq (d : Dev nD) : (bigSep Finset.univ fun c : Fin ((K (F := F)).nCore 0) => (P m).st 0 d c) = tiles fun c i => goT m d c i := by
  simp only [P_st, stT]
  rfl
theorem dn0_eq (d : Dev nD) : (bigSep Finset.univ fun c : Fin ((K (F := F)).nCore 0) => (P m).dn 0 d c) = tiles fun c i => tdT m d c i := by
  simp only [P_dn, dnT]
  rfl

theorem start_call (d : Dev nD) :
    iprop((gX0 d ↦{fullShare} vX0 m d) ∗ (gX1 d ↦{fullShare} vX1 m d) ∗ (gX2 d ↦{fullShare} vX2 m d) ∗ (gA d ↦{fullShare} vA m d) ∗ (gTab d ↦{fullShare} vTab m d)
        ∗ (gCS d ↦{fullShare} m (gCS d)) ∗ (gAS d ↦{fullShare} m (gAS d)) ∗ (gFM d ↦{fullShare} m (gFM d)) ∗ (gMK d ↦{fullShare} m (gMK d)))
      ⊢ (iprop(tabRest d (vTab m d) ∗ bigSep Finset.univ fun c : Fin ((K (F := F)).nCore 0) => (P m).st 0 d c) : sProp 𝕄) := by
  rw [st0_eq, deal_x0, deal_x1, deal_x2, deal_a, deal_cs, deal_as, deal_fm, deal_mk]
  simp only [goT, tiles_sep]
  iintro ⟨⟨X0a, X0b⟩, ⟨X1a, X1b⟩, ⟨-, -, X2c, X2d⟩, ⟨Aa, Ab⟩, Tb, ⟨Ca, Cb, Cc, Cd⟩, ⟨Sa, Sb, Sc, Sd⟩, ⟨Fa, Fb⟩, ⟨Ma, Mb⟩⟩
  ihave Tb := (deal_tab d (vTab m d)) $$ Tb
  icases Tb with ⟨Tr, Tb⟩
  isplitl [Tr]; · iexact Tr
  isplitl [X0a X0b X1a X1b X2c X2d Aa Ab Tb]
  · isplitl [X0a]; · iexact X0a
    isplitl [X0b]; · iexact X0b
    isplitl [X1a]; · iexact X1a
    isplitl [X1b]; · iexact X1b
    isplitl [X2c]; · iexact X2c
    isplitl [X2d]; · iexact X2d
    isplitl [Aa]; · iexact Aa
    isplitl [Ab]; · iexact Ab
    iexact Tb
  isplitl [Ca]; · iexact Ca
  isplitl [Cb]; · iexact Cb
  isplitl [Cc]; · iexact Cc
  isplitl [Cd]; · iexact Cd
  isplitl [Sa]; · iexact Sa
  isplitl [Sb]; · iexact Sb
  isplitl [Sc]; · iexact Sc
  isplitl [Sd]; · iexact Sd
  isplitl [Fa]; · iexact Fa
  isplitl [Fb]; · iexact Fb
  isplitl [Ma]; · iexact Ma
  iexact Mb

/-- What the call leaves in the arrays it fills. -/
abbrev wCS (d : Dev nD) : S3x8x32768.Idx → F .f32 := csAll (vX0 m d) (vX1 m d) (vA m d) (vTab m d)
abbrev wAS (d : Dev nD) : S8x32768.Idx → BitVec 32 := asAll (vA m d)
abbrev wFM (d : Dev nD) : S3x8x16384.Idx → F .f32 := fmAll (vA m d) (vX2 m d) (vTab m d)
abbrev wMK (d : Dev nD) : S8x16384.Idx → BitVec 32 := mkAll (vA m d) (vTab m d)

theorem end_call (d : Dev nD) :
    (iprop(tabRest d (vTab m d) ∗ bigSep Finset.univ fun c : Fin ((K (F := F)).nCore 0) => (P m).dn 0 d c) : sProp 𝕄)
      ⊢ iprop((gA d ↦{fullShare} vA m d) ∗ (gTab d ↦{fullShare} vTab m d)
        ∗ (gCS d ↦{fullShare} wCS m d) ∗ (gAS d ↦{fullShare} wAS m d) ∗ (gFM d ↦{fullShare} wFM m d) ∗ (gMK d ↦{fullShare} wMK m d)) := by
  rw [dn0_eq, deal_a, deal_cs, deal_as, deal_fm, deal_mk]
  simp only [tdT, tiles_sep]
  iintro ⟨Tr, ⟨Aa, Ab, Tb⟩, Ca, Cb, Cc, Cd, Sa, Sb, Sc, Sd, Fa, Fb, Ma, Mb⟩
  isplitl [Aa Ab]
  · isplitl [Aa]; · iexact Aa
    iexact Ab
  isplitl [Tr Tb]
  · iapply (gather_tab d (vTab m d))
    isplitl [Tr]; · iexact Tr
    iexact Tb
  isplitl [Ca Cb Cc Cd]
  · isplitl [Ca]; · iexact Ca
    isplitl [Cb]; · iexact Cb
    isplitl [Cc]; · iexact Cc
    iexact Cd
  isplitl [Sa Sb Sc Sd]
  · isplitl [Sa]; · iexact Sa
    isplitl [Sb]; · iexact Sb
    isplitl [Sc]; · iexact Sc
    iexact Sd
  isplitl [Fa Fb]
  · isplitl [Fa]; · iexact Fa
    iexact Fb
  isplitl [Ma]; · iexact Ma
  iexact Mb

end Pay

end Cert.Proof.Spin

end
-- ==== Proof.Main.lean ====
/-
  The whole program: the three transposes, the call, the eight operations after it; and what its run leaves in memory.
-/
module

public import proofs.«01_k».proof.Proof.Launch
public import Idealize.ShloMosaic.Lib.Pipeline.Frame

@[expose] public section

noncomputable section

namespace Cert.Proof.Spin

open Cert.KernelIdeal Cert.KernelIdeal.Gen

open Idealize.ShloMosaic Idealize.ShloMosaic.StableHlo
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MM F

/-! ## The operations around the call -/

abbrev opsPre : List (HloOp τ sig (Elt F)) :=
  [ unary main_arg0 main_v0 ((transpose S3x8x16384 [2, 0, 1] · transposes_S8x16384x3_S3x8x16384_2_0_1) : (⟨S8x16384x3, .f32⟩ : BufTy).Contents (Elt F) → (⟨S3x8x16384, .f32⟩ : BufTy).Contents (Elt F)),
    unary main_arg2 main_v1 ((transpose S3x8x16384 [2, 0, 1] · transposes_S8x16384x3_S3x8x16384_2_0_1) : (⟨S8x16384x3, .f32⟩ : BufTy).Contents (Elt F) → (⟨S3x8x16384, .f32⟩ : BufTy).Contents (Elt F)),
    unary main_arg3 main_v2 ((transpose S3x8x32768 [2, 0, 1] · transposes_S8x32768x3_S3x8x32768_2_0_1) : (⟨S8x32768x3, .f32⟩ : BufTy).Contents (Elt F) → (⟨S3x8x32768, .f32⟩ : BufTy).Contents (Elt F)) ]

abbrev opsPost : List (HloOp τ sig (Elt F)) :=
  [ unary main_v3_0 main_v4 ((transpose S8x32768x3 [1, 2, 0] · transposes_S3x8x32768_S8x32768x3_1_2_0) : (⟨S3x8x32768, .f32⟩ : BufTy).Contents (Elt F) → (⟨S8x32768x3, .f32⟩ : BufTy).Contents (Elt F)),
    unary main_arg3 main_v5 ((extractStridedSlice S8x16384x3 ![0, 0, 0] · slices_S8x32768x3_S8x16384x3_0_0_0) : (⟨S8x32768x3, .f32⟩ : BufTy).Contents (Elt F) → (⟨S8x16384x3, .f32⟩ : BufTy).Contents (Elt F)),
    unary main_v3_2 main_v6 ((transpose S8x16384x3 [1, 2, 0] · transposes_S3x8x16384_S8x16384x3_1_2_0) : (⟨S3x8x16384, .f32⟩ : BufTy).Contents (Elt F) → (⟨S8x16384x3, .f32⟩ : BufTy).Contents (Elt F)),
    reshape main_v3_3 main_v7 (rfl : (.i32 : EltTy) = .i32) shapeCasts_S8x16384_S8x16384x1,
    nullary main_c (constantI S_ 32 0#32),
    unary main_c main_v8 (broadcastInDim S8x16384x1 ![] bcast_S_S8x16384x1 : (⟨S_, .i32⟩ : BufTy).Contents (Elt F) → (⟨S8x16384x1, .i32⟩ : BufTy).Contents (Elt F)),
    binary main_v7 main_v8 main_v9 (cmpi .ne : (⟨S8x16384x1, .i32⟩ : BufTy).Contents (Elt F) → (⟨S8x16384x1, .i32⟩ : BufTy).Contents (Elt F) → (⟨S8x16384x1, .i1⟩ : BufTy).Contents (Elt F)),
    unary main_v9 main_v10 (id : (⟨S8x16384x1, .i1⟩ : BufTy).Contents (Elt F) → (⟨S8x16384x1, .i1⟩ : BufTy).Contents (Elt F)) ]

theorem main_eq (d : Dev nD) : main (F := F) d = (seq opsPre >>= fun _ => ((K (F := F)).run d 0 >>= fun _ => (seq opsPost >>= fun u => pure u))) := rfl

/-- The arrays the call works on, and those it hands back. -/
abbrev R9 : Finset (DevRef τ sig) :=
  {Proc.devRef .tc main_v0, Proc.devRef .tc main_v1, Proc.devRef .tc main_v2, Proc.devRef .tc main_arg1, Proc.devRef .tc main_arg4,
    Proc.devRef .tc main_v3_0, Proc.devRef .tc main_v3_1, Proc.devRef .tc main_v3_2, Proc.devRef .tc main_v3_3}
abbrev R6 : Finset (DevRef τ sig) :=
  {Proc.devRef .tc main_arg1, Proc.devRef .tc main_arg4,
    Proc.devRef .tc main_v3_0, Proc.devRef .tc main_v3_1, Proc.devRef .tc main_v3_2, Proc.devRef .tc main_v3_3}
/-- The arrays held after the call. -/
abbrev Rend : Finset (DevRef τ sig) := R6 ∪ (Pipeline.ucRefs τ sig \ R9)

theorem R9_sub : R9 ⊆ Pipeline.ucRefs τ sig := by decide
theorem R6_disj : Disjoint R6 (Pipeline.ucRefs τ sig \ R9) := by decide

section Run

variable (m : (ℓ : Loc nD τ sig) → Buf (Elt F) ℓ)

/-- The contents at the launch, before the call, after it and at the end. -/
def V0 (d : Dev nD) : Valuation τ sig (Elt F) := fun b => m (d, b)
def V1 (d : Dev nD) : Valuation τ sig (Elt F) := after opsPre (V0 m d)
def V2 (d : Dev nD) : Valuation τ sig (Elt F) :=
  Function.update (Function.update (Function.update (Function.update (V1 m d) (Proc.devRef .tc main_v3_0) (wCS m d))
    (Proc.devRef .tc main_v3_1) (wAS m d)) (Proc.devRef .tc main_v3_2) (wFM m d)) (Proc.devRef .tc main_v3_3) (wMK m d)
def V3 (d : Dev nD) : Valuation τ sig (Elt F) := after opsPost (V2 m d)

theorem held_R9 (d : Dev nD) :
    (held (SparseCore.T d) R9 (V1 m d) : sProp 𝕄) = iprop((gX0 d ↦{fullShare} vX0 m d) ∗ (gX1 d ↦{fullShare} vX1 m d) ∗ (gX2 d ↦{fullShare} vX2 m d) ∗ (gA d ↦{fullShare} vA m d) ∗ (gTab d ↦{fullShare} vTab m d)
        ∗ (gCS d ↦{fullShare} m (gCS d)) ∗ (gAS d ↦{fullShare} m (gAS d)) ∗ (gFM d ↦{fullShare} m (gFM d)) ∗ (gMK d ↦{fullShare} m (gMK d))) := by
  unfold held R9
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]
  have e0 : V1 m d (Proc.devRef .tc main_v0) = vX0 m d := by unfold V1; after_results; rfl
  have e1 : V1 m d (Proc.devRef .tc main_v1) = vX1 m d := by unfold V1; after_results; rfl
  have e2 : V1 m d (Proc.devRef .tc main_v2) = vX2 m d := by unfold V1; after_results; rfl
  have e3 : V1 m d (Proc.devRef .tc main_arg1) = vA m d := by unfold V1; after_results; rfl
  have e4 : V1 m d (Proc.devRef .tc main_arg4) = vTab m d := by unfold V1; after_results; rfl
  have e5 : V1 m d (Proc.devRef .tc main_v3_0) = m (gCS d) := by unfold V1; after_results; rfl
  have e6 : V1 m d (Proc.devRef .tc main_v3_1) = m (gAS d) := by unfold V1; after_results; rfl
  have e7 : V1 m d (Proc.devRef .tc main_v3_2) = m (gFM d) := by unfold V1; after_results; rfl
  have e8 : V1 m d (Proc.devRef .tc main_v3_3) = m (gMK d) := by unfold V1; after_results; rfl
  rw [e0, e1, e2, e3, e4, e5, e6, e7, e8]

theorem V2_of_ne (d : Dev nD) {b : DevRef τ sig} (h : b ∉ ({Proc.devRef .tc main_v3_0, Proc.devRef .tc main_v3_1, Proc.devRef .tc main_v3_2, Proc.devRef .tc main_v3_3} : Finset (DevRef τ sig))) :
    V2 m d b = V1 m d b := by
  simp only [Finset.mem_insert, Finset.mem_singleton, not_or] at h
  unfold V2
  rw [Function.update_of_ne h.2.2.2, Function.update_of_ne h.2.2.1, Function.update_of_ne h.2.1, Function.update_of_ne h.1]

theorem V2_mk (d : Dev nD) : V2 m d (Proc.devRef .tc main_v3_3) = wMK m d := Function.update_self _ _ _
theorem V2_fm (d : Dev nD) : V2 m d (Proc.devRef .tc main_v3_2) = wFM m d := by
  unfold V2; rw [Function.update_of_ne (by decide), Function.update_self]
theorem V2_as (d : Dev nD) : V2 m d (Proc.devRef .tc main_v3_1) = wAS m d := by
  unfold V2; rw [Function.update_of_ne (by decide), Function.update_of_ne (by decide), Function.update_self]
theorem V2_cs (d : Dev nD) : V2 m d (Proc.devRef .tc main_v3_0) = wCS m d := by
  unfold V2; rw [Function.update_of_ne (by decide), Function.update_of_ne (by decide), Function.update_of_ne (by decide), Function.update_self]

theorem V2_arg (d : Dev nD) {b : DevRef τ sig} (h : b ∈ ({Proc.devRef .tc main_arg0, Proc.devRef .tc main_arg1, Proc.devRef .tc main_arg2, Proc.devRef .tc main_arg3, Proc.devRef .tc main_arg4} : Finset (DevRef τ sig))) :
    V2 m d b = m (d, b) := by
  simp only [Finset.mem_insert, Finset.mem_singleton] at h
  rcases h with rfl | rfl | rfl | rfl | rfl <;> rw [V2_of_ne m d (by decide)] <;> unfold V1 <;> after_results <;> rfl

theorem held_R6 (d : Dev nD) :
    (held (SparseCore.T d) R6 (V2 m d) : sProp 𝕄) = iprop((gA d ↦{fullShare} vA m d) ∗ (gTab d ↦{fullShare} vTab m d)
        ∗ (gCS d ↦{fullShare} wCS m d) ∗ (gAS d ↦{fullShare} wAS m d) ∗ (gFM d ↦{fullShare} wFM m d) ∗ (gMK d ↦{fullShare} wMK m d)) := by
  unfold held R6
  rw [SparseCore.bigSep_insert' (by decide), SparseCore.bigSep_insert' (by decide),
    SparseCore.bigSep_insert' (by decide), SparseCore.bigSep_insert' (by decide), SparseCore.bigSep_insert' (by decide), bigSep_singleton]
  rw [V2_mk, V2_fm, V2_as, V2_cs, V2_arg m d (b := Proc.devRef .tc main_arg1) (by decide), V2_arg m d (b := Proc.devRef .tc main_arg4) (by decide)]

theorem held_rest (d : Dev nD) :
    (held (SparseCore.T d) (Pipeline.ucRefs τ sig \ R9) (V1 m d) : sProp 𝕄) = held (SparseCore.T d) (Pipeline.ucRefs τ sig \ R9) (V2 m d) :=
  held_congr _ fun b hb => (V2_of_ne m d fun hb' => (Finset.mem_sdiff.mp hb).2 (by
    simp only [Finset.mem_insert, Finset.mem_singleton] at hb' ⊢
    rcases hb' with rfl | rfl | rfl | rfl <;> simp)).symm

theorem held_end (d : Dev nD) :
    (held (SparseCore.T d) Rend (V2 m d) : sProp 𝕄) = iprop(held (SparseCore.T d) R6 (V2 m d) ∗ held (SparseCore.T d) (Pipeline.ucRefs τ sig \ R9) (V2 m d)) := by
  unfold held Rend
  exact SparseCore.bigSep_union' R6_disj

/-- What the call is to be given, out of what the host operations leave, and what is to be had back from it. -/
theorem held_call (d : Dev nD) : (held (SparseCore.T d) (Pipeline.ucRefs τ sig) (after opsPre (V0 m d)) : sProp 𝕄)
    ⊢ iprop(((gX0 d ↦{fullShare} vX0 m d) ∗ (gX1 d ↦{fullShare} vX1 m d) ∗ (gX2 d ↦{fullShare} vX2 m d) ∗ (gA d ↦{fullShare} vA m d) ∗ (gTab d ↦{fullShare} vTab m d)
        ∗ (gCS d ↦{fullShare} m (gCS d)) ∗ (gAS d ↦{fullShare} m (gAS d)) ∗ (gFM d ↦{fullShare} m (gFM d)) ∗ (gMK d ↦{fullShare} m (gMK d)))
      ∗ held (SparseCore.T d) (Pipeline.ucRefs τ sig \ R9) (V2 m d)) := by
  rw [show after opsPre (V0 m d) = V1 m d from rfl, held_sub_split (SparseCore.T d) R9_sub, held_R9, held_rest]

theorem held_back (d : Dev nD) : iprop(((gA d ↦{fullShare} vA m d) ∗ (gTab d ↦{fullShare} vTab m d)
        ∗ (gCS d ↦{fullShare} wCS m d) ∗ (gAS d ↦{fullShare} wAS m d) ∗ (gFM d ↦{fullShare} wFM m d) ∗ (gMK d ↦{fullShare} wMK m d))
      ∗ held (SparseCore.T d) (Pipeline.ucRefs τ sig \ R9) (V2 m d)) ⊢ (held (SparseCore.T d) Rend (V2 m d) : sProp 𝕄) := by
  rw [held_end, held_R6]

theorem pre_sub : ∀ op ∈ (opsPre : List (HloOp τ sig (Elt F))), op.bufs ⊆ Pipeline.ucRefs τ sig := by
  intro op h
  simp only [List.mem_cons, List.not_mem_nil, or_false] at h
  rcases h with rfl | rfl | rfl
  · show ({_, _} : Finset (DevRef τ sig)) ⊆ _; decide
  · show ({_, _} : Finset (DevRef τ sig)) ⊆ _; decide
  · show ({_, _} : Finset (DevRef τ sig)) ⊆ _; decide

theorem pre_fresh : ∀ op ∈ (opsPre : List (HloOp τ sig (Elt F))), op.fresh = ∅ := by
  intro _ h; (repeat (cases h with | head => rfl | tail _ h => ?_)); exact nomatch h

theorem post_sub : ∀ op ∈ (opsPost : List (HloOp τ sig (Elt F))), op.bufs ⊆ Rend := by
  intro op h
  simp only [List.mem_cons, List.not_mem_nil, or_false] at h
  rcases h with rfl | rfl | rfl | rfl | rfl | rfl | rfl | rfl
  · show ({_, _} : Finset (DevRef τ sig)) ⊆ _; decide
  · show ({_, _} : Finset (DevRef τ sig)) ⊆ _; decide
  · show ({_, _} : Finset (DevRef τ sig)) ⊆ _; decide
  · show ({_, _} : Finset (DevRef τ sig)) ⊆ _; decide
  · show ({_} : Finset (DevRef τ sig)) ⊆ _; decide
  · show ({_, _} : Finset (DevRef τ sig)) ⊆ _; decide
  · show ({_, _, _} : Finset (DevRef τ sig)) ⊆ _; decide
  · show ({_, _} : Finset (DevRef τ sig)) ⊆ _; decide

theorem post_fresh : ∀ op ∈ (opsPost : List (HloOp τ sig (Elt F))), op.fresh = ∅ := by
  intro _ h; (repeat (cases h with | head => rfl | tail _ h => ?_)); exact nomatch h

/-- What @main leaves the claims: the arrays held at the end, at the end's contents. -/
abbrev FIN (d : Dev nD) : sProp 𝕄 := held (SparseCore.T d) Rend (V3 m d)

variable (ρ : Dev nD → PrngReg)

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d) from
    Pipeline.unscopedBufs_held d (V0 m d), main_eq]
  iintro ⟨#Hctx, Hst, ⟨Hb, Hheld, Hts, -⟩, -⟩
  iapply (wp_seq 𝒱 none Set.univ d (Pipeline.ucRefs τ sig) _ opsPre pre_sub pre_fresh (V0 m d)) $$ [Hb Hheld]
  · isplitl [Hb]; · iexact Hb
    iexact Hheld
  iintro ⟨Hb, Hheld⟩
  ihave Hheld := (held_call m d) $$ Hheld
  icases Hheld with ⟨H9, Hrest⟩
  ihave H9 := (start_call m d) $$ H9
  icases H9 with ⟨Htab, H9⟩
  rw [wp_bind]
  iapply ((K (F := F)).wp_run (D (F := F)) 𝒱 (EH := EH) (P := P m) κ d 0) $$ [Hst Hb Hrest Htab H9 Hts]
  isplitr; · iexact Hctx
  isplitl [Hst]; · iexact Hst
  isplitl [H9]; · iexact H9
  iintro ⟨Hst, Hdn⟩
  ihave H6 := (end_call m d) $$ [Htab Hdn]
  · isplitl [Htab]; · iexact Htab
    iexact Hdn
  iapply (wp_seq 𝒱 none Set.univ d Rend _ opsPost post_sub post_fresh (V2 m d)) $$ [Hb H6 Hrest]
  · isplitl [Hb]; · iexact Hb
    iapply (held_back m d)
    isplitl [H6]; · iexact H6
    iexact Hrest
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ Rend, s'.mem.mem (d, b) = V3 m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) Rend) $$ [HSI H]
  · isplitl [HSI]; · iexact HSI
    iexact H
  ipureintro
  exact h

/-! ## The contents at the end -/

theorem V3_arg0 (d : Dev nD) : V3 m d (Proc.devRef .tc main_arg0) = m ((SparseCore.T d).loc main_arg0) := by
  unfold V3; after_results; exact V2_arg m d (by decide)
theorem V3_arg1 (d : Dev nD) : V3 m d (Proc.devRef .tc main_arg1) = m ((SparseCore.T d).loc main_arg1) := by
  unfold V3; after_results; exact V2_arg m d (by decide)
theorem V3_arg2 (d : Dev nD) : V3 m d (Proc.devRef .tc main_arg2) = m ((SparseCore.T d).loc main_arg2) := by
  unfold V3; after_results; exact V2_arg m d (by decide)
theorem V3_arg3 (d : Dev nD) : V3 m d (Proc.devRef .tc main_arg3) = m ((SparseCore.T d).loc main_arg3) := by
  unfold V3; after_results; exact V2_arg m d (by decide)
theorem V3_arg4 (d : Dev nD) : V3 m d (Proc.devRef .tc main_arg4) = m ((SparseCore.T d).loc main_arg4) := by
  unfold V3; after_results; exact V2_arg m d (by decide)

/-- The five results. -/
def rCS (d : Dev nD) : S8x32768x3.Idx → F .f32 := transpose S8x32768x3 [1, 2, 0] (wCS m d) transposes_S3x8x32768_S8x32768x3_1_2_0
def rFR (d : Dev nD) : S8x16384x3.Idx → F .f32 := extractStridedSlice S8x16384x3 ![0, 0, 0] (m ((SparseCore.T d).loc main_arg3)) slices_S8x32768x3_S8x16384x3_0_0_0
def rFM (d : Dev nD) : S8x16384x3.Idx → F .f32 := transpose S8x16384x3 [1, 2, 0] (wFM m d) transposes_S3x8x16384_S8x16384x3_1_2_0
def rMK (d : Dev nD) : S8x16384x1.Idx → BitVec 1 :=
  cmpi .ne (shapeCast _ (wMK m d) shapeCasts_S8x16384_S8x16384x1) (broadcastInDim S8x16384x1 ![] bcast_S_S8x16384x1 (constantI S_ 32 0#32))

theorem V3_v4 (d : Dev nD) : V3 m d (Proc.devRef .tc main_v4) = rCS m d := by
  unfold V3; after_results; rw [V2_cs]; rfl
theorem V3_v3_1 (d : Dev nD) : V3 m d (Proc.devRef .tc main_v3_1) = wAS m d := by
  unfold V3; after_results; rw [V2_as]
theorem V3_v5 (d : Dev nD) : V3 m d (Proc.devRef .tc main_v5) = rFR m d := by
  unfold V3; after_results; rw [V2_arg m d (b := Proc.devRef .tc main_arg3) (by decide)]; rfl
theorem V3_v6 (d : Dev nD) : V3 m d (Proc.devRef .tc main_v6) = rFM m d := by
  unfold V3; after_results; rw [V2_fm]; rfl
theorem V3_v10 (d : Dev nD) : V3 m d (Proc.devRef .tc main_v10) = rMK m d := by
  unfold V3; after_results; rw [V2_mk]; rfl

/-! ## The program's run -/

def QC : PUnit × MemSt nD τ sig (Elt F) → Prop := fun r => (∀ c : Dev nD, ∀ b ∈ Rend, r.2.mem (c, b) = V3 m c b) ∧ r.2.sem = fun _ => 0

theorem run_main [∀ e, Nonempty (Elt F e)] (hpre : PreOK m) : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- Every array the claims name, at the end: the arguments as they were, the five results at their values. -/
theorem run_values [∀ e, Nonempty (Elt F e)] (hpre : PreOK m) :
    θ_run (defs (F := F)) (threads (F := F)) ⟨m, fun _ => 0, ρ⟩ (fun r => (∀ c : Dev nD,
      (r.2.mem ((SparseCore.T c).loc main_v4) = rCS m c ∧ r.2.mem ((SparseCore.T c).loc main_v3_1) = wAS m c ∧ r.2.mem ((SparseCore.T c).loc main_v5) = rFR m c
        ∧ r.2.mem ((SparseCore.T c).loc main_v6) = rFM m c ∧ r.2.mem ((SparseCore.T c).loc main_v10) = rMK m c)
      ∧ r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4))
      ∧ r.2.sem = fun _ => 0) := by
  refine (θ_run (defs (F := F)) _ _).mono (fun r h => ⟨fun c => ⟨⟨?_, ?_, ?_, ?_, ?_⟩, ?_, ?_, ?_, ?_, ?_⟩, h.2⟩) (run_main m ρ hpre)
  · exact (h.1 c (Proc.devRef .tc main_v4) (by decide)).trans (V3_v4 m c)
  · exact (h.1 c (Proc.devRef .tc main_v3_1) (by decide)).trans (V3_v3_1 m c)
  · exact (h.1 c (Proc.devRef .tc main_v5) (by decide)).trans (V3_v5 m c)
  · exact (h.1 c (Proc.devRef .tc main_v6) (by decide)).trans (V3_v6 m c)
  · exact (h.1 c (Proc.devRef .tc main_v10) (by decide)).trans (V3_v10 m c)
  · exact (h.1 c (Proc.devRef .tc main_arg0) (by decide)).trans (V3_arg0 m c)
  · exact (h.1 c (Proc.devRef .tc main_arg1) (by decide)).trans (V3_arg1 m c)
  · exact (h.1 c (Proc.devRef .tc main_arg2) (by decide)).trans (V3_arg2 m c)
  · exact (h.1 c (Proc.devRef .tc main_arg3) (by decide)).trans (V3_arg3 m c)
  · exact (h.1 c (Proc.devRef .tc main_arg4) (by decide)).trans (V3_arg4 m c)

end Run

end Cert.Proof.Spin

end
-- ==== Proof.Frames.lean ====
/-
  The frames: what the precondition says of the atom types, and each program's run read at its arguments and counters.
-/
module

public import proofs.«01_k».proof.Defs
public import proofs.«01_k».proof.Proof.Main
public import proofs.«01_k».proof.Proof.Gen.Kernel
public import proofs.«01_k».proof.Proof.Gen.ReferenceIdeal.Run
public import proofs.«01_k».proof.Proof.Gen.Pre_types_in_range
public import Idealize.ShloMosaic.Lib.ReduceAll
public import Idealize.ShloMosaic.Adequacy

@[expose] public section

noncomputable section

namespace Cert.Proof.Spin

open Idealize.ShloMosaic Idealize.ShloMosaic.TcCoe Idealize.SL.Sem

/-- A word between nought and eight, read signed, is a number below eight. -/
theorem word_lt_eight (v : BitVec 32) (e : IntOp.andi (IntOp.cmpi .sge v 0#32) (IntOp.cmpi .slt v 8#32) = 1#1) : v.toNat < 8 := by
  have hand (p q : Bool) : IntOp.andi (BitVec.ofBool p) (BitVec.ofBool q) = BitVec.ofBool (p && q) := by cases p <;> cases q <;> decide
  have hone (p : Bool) : (BitVec.ofBool p = 1#1) ↔ p = true := by cases p <;> decide
  simp only [IntOp.cmpi, hand, hone, Bool.and_eq_true, BitVec.sle_eq_decide, BitVec.slt_eq_decide, decide_eq_true_eq,
    BitVec.toInt_eq_toNat_cond, BitVec.toNat_ofNat, Nat.reducePow, Nat.reduceMod] at e
  omega

/-- The predicate, all ones, says every atom type is below eight. -/
theorem types_lt_eight {F : FTy → Type} [FloatOps F] [Cert.Pre_types_in_range.Facts]
    (a0 : FVec F Cert.Pre_types_in_range.S8x16384x3 .f32) (a1 : IVec Cert.Pre_types_in_range.S8x16384 32) (a2 : FVec F Cert.Pre_types_in_range.S8x16384x3 .f32)
    (a3 : FVec F Cert.Pre_types_in_range.S8x32768x3 .f32) (a4 : FVec F Cert.Pre_types_in_range.S8 .f32)
    (h : Cert.Pre_types_in_range.fn a0 a1 a2 a3 a4 = fun _ => 1#1) (x : Cert.Pre_types_in_range.S8x16384.Idx) : (a1 x).toNat < 8 := by
  haveI : Subsingleton Cert.Pre_types_in_range.S_.Idx := ⟨fun i j => funext fun a => a.elim0⟩
  have e := congrFun h (fun a => a.elim0)
  unfold Cert.Pre_types_in_range.fn at e
  exact word_lt_eight _ (Host.reduce_andi_all _ _ _ _ _ e x)

theorem preOK_ideal (m : (ℓ : Loc Cert.KernelIdeal.nD Cert.KernelIdeal.τ Cert.KernelIdeal.sig) → Buf (Elt Ideal) ℓ) (h : Cert.Pre_KernelIdeal m) :
    PreOK (F := Ideal) m := fun d x => types_lt_eight _ _ _ _ _ (h d) x

theorem preOK_bits (m : (ℓ : Loc Cert.Kernel.nD Cert.Kernel.τ Cert.Kernel.sig) → Buf (Elt Bits) ℓ) (h : Cert.Pre_Kernel m) :
    PreOK (F := Bits) m := fun d x => types_lt_eight _ _ _ _ _ (h d) x

/-- The kernel's frame: its run, read at its arguments and counters. -/
theorem frame_ideal : Cert.quiescent_KernelIdeal := fun m ρ h =>
  (θ_run (Cert.KernelIdeal.defs (F := Ideal)) _ _).mono (fun _ h => ⟨fun c => (h.1 c).2, h.2⟩) (run_values (F := Ideal) m ρ (preOK_ideal m h))

theorem frame_kernel : Cert.quiescent_Kernel := fun m ρ h =>
  (θ_run (Cert.KernelIdeal.defs (F := Bits)) _ _).mono (fun _ h => ⟨fun c => (h.1 c).2, h.2⟩) (run_values (F := Bits) m ρ (preOK_bits m h))

/-- The reference's frame, of any arguments. -/
theorem frame_reference : Cert.quiescent_ReferenceIdeal := fun m ρ _ =>
  (θ_run (Cert.ReferenceIdeal.defs (F := Ideal)) _ _).mono
    (fun r h => ⟨fun c => (h c).2.2.2.2.2, Idealize.ShloMosaic.sem_eq_zero_of_no_sems (by decide) r.2⟩) (Cert.ReferenceIdeal.Value.run (F := Ideal) m ρ)

theorem frame_reference_pre : Cert.quiescent_ReferenceIdeal_pre_types_in_range := fun m ρ _ => frame_reference m ρ True.intro

end Cert.Proof.Spin

end
-- ==== Proof.Equal.lean ====
/-
  The five results against the reference's terms: the reference's take at types below eight is the table looked up, and
  each result is its term, element by element.
-/
module

public import proofs.«01_k».proof.Proof.Main
public import proofs.«01_k».proof.Proof.Gen.ReferenceIdeal.Run
public import Idealize.ShloMosaic.Lib.ReduceAll
public import Idealize.ShloMosaic.Lib.ValueLayout
public import Idealize.ShloMosaic.Lib.ValueIdxCore

@[expose] public section

noncomputable section

namespace Cert.Proof.Spin

open Idealize.ShloMosaic

section Take

open Cert.ReferenceIdeal Cert.ReferenceIdeal.Gen

variable {F : FTy → Type} [FloatOps F]

variable (Tb : FVec F S8 .f32) (A : IVec S8x16384 32) (hA : ∀ x, (A x).toNat < 8)
include hA

/-- A type below eight is not negative: the wrapped index is the type. -/
theorem wrap_eq : (select (cmpi .slt A (broadcastInDim S8x16384 ![] bcast_S_S8x16384 (constantI S_ 32 0#32)))
    (addi A (broadcastInDim S8x16384 ![] bcast_S_S8x16384 (constantI S_ 32 8#32))) A : IVec S8x16384 32) = A := by
  funext x
  have h := hA x
  have e : IntOp.cmpi .slt (A x) 0#32 = 0#1 := by
    simp only [IntOp.cmpi, BitVec.slt_eq_decide, BitVec.toInt_eq_toNat_cond, BitVec.toNat_ofNat, Nat.reducePow, Nat.reduceMod]
    rw [decide_eq_false (by omega)]; rfl
  show Scalar.select (IntOp.cmpi .slt (A x) 0#32) _ (A x) = A x
  rw [e]; rfl

/-- Every type is between nought and seven. -/
theorem range_eq : (Host.reduce IntOp.andi (andi (cmpi .sge (broadcastInDim S8x16384x1 ![0, 1] bcast_S8x16384_S8x16384x1_0_1 A) (broadcastInDim S8x16384x1 ![] bcast_S_S8x16384x1 (constantI S_ 32 0#32)))
    (cmpi .sle (broadcastInDim S8x16384x1 ![0, 1] bcast_S8x16384_S8x16384x1_0_1 A) (broadcastInDim S8x16384x1 ![0, 1, 2] bcast_S1x1x1_S8x16384x1_0_1_2 (broadcastInDim S1x1x1 ![2] bcast_S1_S1x1x1_2 (constantI S1 32 7#32)))))
    (constantI S_ 1 1#1) reducesTo_S8x16384x1_S8x16384_d2 h_S_ : IVec S8x16384 1) = fun _ => 1#1 := by
  funext x
  refine Host.reduce_andi_one _ _ _ _ _ rfl fun i => ?_
  have key : ∀ v : BitVec 32, v.toNat < 8 → IntOp.andi (IntOp.cmpi .sge v 0#32) (IntOp.cmpi .sle v 7#32) = 1#1 := fun v h => by
    simp only [IntOp.cmpi, BitVec.sle_eq_decide, BitVec.toInt_eq_toNat_cond, BitVec.toNat_ofNat, Nat.reducePow, Nat.reduceMod]
    rw [decide_eq_true (by omega), decide_eq_true (by omega)]; rfl
  exact key _ (hA _)

/-- The gather at the types is the table looked up. -/
theorem gather_eq : (Host.gather gather_S8_S8x16384x1_S8x16384_n_0_n_n_0_2_1 Tb (broadcastInDim S8x16384x1 ![0, 1] bcast_S8x16384_S8x16384x1_0_1 A) : FVec F S8x16384 .f32)
    = fun x => lookMask Tb (A x) := by
  funext x
  refine (ValueIdx.gather_take_apply (N := 8) (R := 8) (C := 16384) (by decide) Facts₀.gather_S8_S8x16384x1_S8x16384_n_0_n_n_0_2_1_wf Tb _ x).trans ?_
  have hx : broadcastInDim S8x16384x1 ![0, 1] bcast_S8x16384_S8x16384x1_0_1 A (ValueIdx.takeIdx x) = A x := by
    refine congrArg A (funext fun a => Fin.ext ?_)
    match a with
    | ⟨0, _⟩ => rfl
    | ⟨1, _⟩ => rfl
  have h := hA x
  unfold lookMask
  refine congrArg Tb (congrArg ix1 (Fin.ext ?_))
  show min (broadcastInDim S8x16384x1 ![0, 1] bcast_S8x16384_S8x16384x1_0_1 A (ValueIdx.takeIdx x)).toInt.toNat (8 - 1) = (A x).toNat % 8
  rw [hx, BitVec.toInt_eq_toNat_cond]
  omega

theorem taken_eq : (select (Host.reduce IntOp.andi (andi (cmpi .sge (broadcastInDim S8x16384x1 ![0, 1] bcast_S8x16384_S8x16384x1_0_1 (select (cmpi .slt A (broadcastInDim S8x16384 ![] bcast_S_S8x16384 (constantI S_ 32 0#32))) (addi A (broadcastInDim S8x16384 ![] bcast_S_S8x16384 (constantI S_ 32 8#32))) A)) (broadcastInDim S8x16384x1 ![] bcast_S_S8x16384x1 (constantI S_ 32 0#32)))
      (cmpi .sle (broadcastInDim S8x16384x1 ![0, 1] bcast_S8x16384_S8x16384x1_0_1 (select (cmpi .slt A (broadcastInDim S8x16384 ![] bcast_S_S8x16384 (constantI S_ 32 0#32))) (addi A (broadcastInDim S8x16384 ![] bcast_S_S8x16384 (constantI S_ 32 8#32))) A)) (broadcastInDim S8x16384x1 ![0, 1, 2] bcast_S1x1x1_S8x16384x1_0_1_2 (broadcastInDim S1x1x1 ![2] bcast_S1_S1x1x1_2 (constantI S1 32 7#32)))))
      (constantI S_ 1 1#1) reducesTo_S8x16384x1_S8x16384_d2 h_S_)
    (Host.gather gather_S8_S8x16384x1_S8x16384_n_0_n_n_0_2_1 Tb (broadcastInDim S8x16384x1 ![0, 1] bcast_S8x16384_S8x16384x1_0_1 (select (cmpi .slt A (broadcastInDim S8x16384 ![] bcast_S_S8x16384 (constantI S_ 32 0#32))) (addi A (broadcastInDim S8x16384 ![] bcast_S_S8x16384 (constantI S_ 32 8#32))) A)))
    (broadcastInDim S8x16384 ![] bcast_S_S8x16384 (constant S_ .f32 0x7FC00000#32)) : FVec F S8x16384 .f32) = fun x => lookMask Tb (A x) := by
  rw [wrap_eq A hA, range_eq A hA, gather_eq Tb A hA]
  rfl

end Take

/-! ## The results, element by element -/

section Results

open Cert.KernelIdeal (S3x8x16384 S3x8x32768)
open Cert.ReferenceIdeal Cert.ReferenceIdeal.Gen

variable {F : FTy → Type} [FloatOps F]

variable (C Sp : FVec F S8x16384x3 .f32) (G : FVec F S8x32768x3 .f32) (A : IVec S8x16384 32) (Tb : FVec F S8 .f32)

/-- The masks laid over the three coordinates. -/
theorem masks_apply (v : FVec F S8x16384 .f32) (x : S8x16384x3.Idx) :
    broadcastInDim S8x16384x3 ![0, 1, 2] bcast_S8x16384x1_S8x16384x3_0_1_2 (shapeCast S8x16384x1 v shapeCasts_S8x16384_S8x16384x1) x = v (ix2 (x 0) (x 1)) := by
  refine shapeCast_apply v shapeCasts_S8x16384_S8x16384x1 _ _ ?_
  rw [Shape.rowMajor_val_three, Shape.rowMajor_val_two]
  show (x 0).val * 16384 + (x 1).val = ((x 0).val * 16384 + (x 1).val) * 1 + 0
  omega

theorem moved_all : transpose S8x32768x3 [1, 2, 0] (csAll (transpose S3x8x16384 [2, 0, 1] C Cert.KernelIdeal.Gen.transposes_S8x16384x3_S3x8x16384_2_0_1) (transpose S3x8x16384 [2, 0, 1] Sp Cert.KernelIdeal.Gen.transposes_S8x16384x3_S3x8x16384_2_0_1) A Tb) Cert.KernelIdeal.Gen.transposes_S3x8x32768_S8x32768x3_1_2_0
    = concatenate S8x32768x3 1 [⟨S8x16384x3, C⟩, ⟨S8x16384x3, addf C (mulf Sp (broadcastInDim S8x16384x3 ![0, 1, 2] bcast_S8x16384x1_S8x16384x3_0_1_2 (shapeCast S8x16384x1 (fun x => lookMask Tb (A x)) shapeCasts_S8x16384_S8x16384x1)))⟩] concatenates_S8x16384x3_S8x16384x3_S8x32768x3_d1 := by
  funext x
  have h0 : (x 0).val < 8 := (x 0).isLt
  have h1 : (x 1).val < 32768 := (x 1).isLt
  have h2 : (x 2).val < 3 := (x 2).isLt
  refine (transpose_apply _ _ _ x (ix3 (x 2) (x 0) (x 1)) fun c => match c with | ⟨0, _⟩ => rfl | ⟨1, _⟩ => rfl | ⟨2, _⟩ => rfl).trans ?_
  have ht : ∀ (X : FVec F S8x16384x3 .f32) (a : Fin 3) (b : Fin 8) (c : Fin 16384), transpose S3x8x16384 [2, 0, 1] X Cert.KernelIdeal.Gen.transposes_S8x16384x3_S3x8x16384_2_0_1 (ix3 a b c) = X (ix3 b c a) := fun X a b c =>
    transpose_apply _ X _ _ _ fun c => match c with | ⟨0, _⟩ => rfl | ⟨1, _⟩ => rfl | ⟨2, _⟩ => rfl
  by_cases hc : (x 1).val < 16384
  · refine Eq.trans (b := C (ix3 (x 0) (atomOf (x 1)) (x 2))) ?_ (concatenate_pair_apply_left (s₁ := S8x16384x3) (s₂ := S8x16384x3) 1 C _ _ x rfl _ fun b => ?_).symm
    · unfold csAll; refine (if_pos hc).trans ?_; exact ht C _ _ _
    · match b with
      | ⟨0, _⟩ => rfl
      | ⟨1, _⟩ => exact Nat.mod_eq_of_lt hc
      | ⟨2, _⟩ => rfl
  · refine Eq.trans ?_ (concatenate_pair_apply_right (s₁ := S8x16384x3) (s₂ := S8x16384x3) 1 C _ _ x rfl rfl (ix3 (x 0) (atomOf (x 1)) (x 2)) (fun b hb => ?_) ?_).symm
    · unfold csAll; refine (if_neg hc).trans ?_
      refine (congrArg₂ (fun c s => moved c s (lookMask Tb (A (ix2 (x 0) (atomOf (x 1)))))) (ht C _ _ _) (ht Sp _ _ _)).trans ?_
      exact congrArg (fun v => FloatOps.addf (C (ix3 (x 0) (atomOf (x 1)) (x 2))) (FloatOps.mulf (Sp (ix3 (x 0) (atomOf (x 1)) (x 2))) v))
        (masks_apply (fun x => lookMask Tb (A x)) (ix3 (x 0) (atomOf (x 1)) (x 2))).symm
    · match b with
      | ⟨0, _⟩ => rfl
      | ⟨1, _⟩ => exact absurd rfl hb
      | ⟨2, _⟩ => rfl
    · show (x 1).val % 16384 + 16384 = (x 1).val
      omega

theorem types_all : asAll A = concatenate S8x32768 1 [⟨S8x16384, A⟩, ⟨S8x16384, addi A (broadcastInDim S8x16384 ![] bcast_S_S8x16384 (constantI S_ 32 8#32))⟩] concatenates_S8x16384_S8x16384_S8x32768_d1 := by
  funext x
  have h1 : (x 1).val < 32768 := (x 1).isLt
  by_cases hc : (x 1).val < 16384
  · refine Eq.trans (b := A (ix2 (x 0) (atomOf (x 1)))) ?_ (concatenate_pair_apply_left (s₁ := S8x16384) (s₂ := S8x16384) 1 A _ _ x rfl _ fun b => ?_).symm
    · unfold asAll; rw [if_pos hc]
    · match b with
      | ⟨0, _⟩ => rfl
      | ⟨1, _⟩ => exact Nat.mod_eq_of_lt hc
  · refine Eq.trans ?_ (concatenate_pair_apply_right (s₁ := S8x16384) (s₂ := S8x16384) 1 A _ _ x rfl rfl (ix2 (x 0) (atomOf (x 1))) (fun b hb => ?_) ?_).symm
    · unfold asAll; rw [if_neg hc]; rfl
    · match b with
      | ⟨0, _⟩ => rfl
      | ⟨1, _⟩ => exact absurd rfl hb
    · show (x 1).val % 16384 + 16384 = (x 1).val
      omega

theorem forces_all : transpose S8x16384x3 [1, 2, 0] (fmAll A (transpose S3x8x32768 [2, 0, 1] G Cert.KernelIdeal.Gen.transposes_S8x32768x3_S3x8x32768_2_0_1) Tb) Cert.KernelIdeal.Gen.transposes_S3x8x16384_S8x16384x3_1_2_0
    = mulf (extractStridedSlice S8x16384x3 ![0, 16384, 0] G slices_S8x32768x3_S8x16384x3_0_16384_0) (broadcastInDim S8x16384x3 ![0, 1, 2] bcast_S8x16384x1_S8x16384x3_0_1_2 (shapeCast S8x16384x1 (fun x => lookMask Tb (A x)) shapeCasts_S8x16384_S8x16384x1)) := by
  funext x
  have h1 : (x 1).val < 16384 := (x 1).isLt
  refine (transpose_apply _ _ _ x (ix3 (x 2) (x 0) (x 1)) fun c => match c with | ⟨0, _⟩ => rfl | ⟨1, _⟩ => rfl | ⟨2, _⟩ => rfl).trans ?_
  show FloatOps.mulf (transpose S3x8x32768 [2, 0, 1] G _ (ix3 (x 2) (x 0) (Fin.ofNat 32768 (16384 + (x 1).val)))) (lookMask Tb (A (ix2 (x 0) (x 1)))) = FloatOps.mulf _ _
  rw [masks_apply]
  refine congrArg (FloatOps.mulf · _) ?_
  refine transpose_apply _ G _ _ _ fun c => ?_
  match c with
  | ⟨0, _⟩ => show 0 + (x 2).val = (x 2).val; omega
  | ⟨1, _⟩ => show 0 + (x 0).val = (x 0).val; omega
  | ⟨2, _⟩ => show 16384 + (x 1).val = (16384 + (x 1).val) % 32768; omega

/-- A mask word is not nought exactly when the mask is positive. -/
theorem word_ne (v : F .f32) : IntOp.cmpi .ne (maskWord v) 0#32 = FloatOps.cmpf .ogt v (Scalar.ofBits .f32 0x00000000#32) := by
  show IntOp.cmpi .ne (Scalar.select (FloatOps.cmpf .ogt v (Scalar.ofBits .f32 0x00000000#32)) 1#32 0#32) 0#32 = _
  generalize FloatOps.cmpf .ogt v (Scalar.ofBits .f32 0x00000000#32) = c
  revert c; decide

theorem words_all : cmpi .ne (shapeCast S8x16384x1 (mkAll A Tb) Cert.KernelIdeal.Gen.shapeCasts_S8x16384_S8x16384x1) (broadcastInDim S8x16384x1 ![] Cert.KernelIdeal.Gen.bcast_S_S8x16384x1 (constantI S_ 32 0#32))
    = cmpf .ogt (shapeCast S8x16384x1 (fun x => lookMask Tb (A x)) shapeCasts_S8x16384_S8x16384x1) (broadcastInDim S8x16384x1 ![] bcast_S_S8x16384x1 (constant S_ .f32 0x00000000#32)) := by
  funext x
  exact word_ne _

end Results

end Cert.Proof.Spin

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_types_in_range
public import proofs.«01_k».proof.Proof.Frames
public import proofs.«01_k».proof.Proof.Equal

@[expose] public section

noncomputable section

namespace Cert.Proof

open Idealize.ShloMosaic Idealize.SL.Sem

/-- `Cert.algebraic_KernelIdeal_ReferenceIdeal`: both runs end at the kernel's closed forms of the arguments. -/
theorem same_results : Cert.algebraic_KernelIdeal_ReferenceIdeal := by
  intro m g m' g' hpre hargs
  have hok := Spin.preOK_ideal m hpre
  refine ⟨fun c => Spin.rCS m c, fun c => Spin.wAS m c, fun c => Spin.rFR m c, fun c => Spin.rFM m c, fun c => Spin.rMK m c, ?_, ?_⟩
  · exact (θ_run (Cert.KernelIdeal.defs (F := Ideal)) _ _).mono
      (fun r h c => ⟨(h.1 c).1.1, (h.1 c).1.2.1, (h.1 c).1.2.2.1, (h.1 c).1.2.2.2.1, (h.1 c).1.2.2.2.2, (h.1 c).2⟩) (Spin.run_values (F := Ideal) m g hok)
  · refine (θ_run (Cert.ReferenceIdeal.defs (F := Ideal)) _ _).mono (fun r h c => ?_) (Cert.ReferenceIdeal.Value.run (F := Ideal) m' g')
    obtain ⟨a0, a1, a2, a3, a4⟩ := hargs c
    obtain ⟨e0, e1, e2, e3, e4, hf⟩ := h c
    refine ⟨e0.trans ?_, e1.trans ?_, e2.trans ?_, e3.trans ?_, e4.trans ?_, hf⟩
    · rw [a0, a1, a2, a4]
      have t := Spin.taken_eq (F := Ideal) (m ((SparseCore.T c).loc Cert.KernelIdeal.main_arg4)) (m ((SparseCore.T c).loc Cert.KernelIdeal.main_arg1)) (hok c)
      refine Eq.trans ?_ (Spin.moved_all (F := Ideal) (m ((SparseCore.T c).loc Cert.KernelIdeal.main_arg0)) (m ((SparseCore.T c).loc Cert.KernelIdeal.main_arg2))
        (m ((SparseCore.T c).loc Cert.KernelIdeal.main_arg1)) (m ((SparseCore.T c).loc Cert.KernelIdeal.main_arg4))).symm
      rw [← t]
    · rw [a1]
      exact (Spin.types_all (m ((SparseCore.T c).loc Cert.KernelIdeal.main_arg1))).symm
    · rw [a3]; rfl
    · rw [a1, a3, a4]
      have t := Spin.taken_eq (F := Ideal) (m ((SparseCore.T c).loc Cert.KernelIdeal.main_arg4)) (m ((SparseCore.T c).loc Cert.KernelIdeal.main_arg1)) (hok c)
      refine Eq.trans ?_ (Spin.forces_all (F := Ideal) (m ((SparseCore.T c).loc Cert.KernelIdeal.main_arg3))
        (m ((SparseCore.T c).loc Cert.KernelIdeal.main_arg1)) (m ((SparseCore.T c).loc Cert.KernelIdeal.main_arg4))).symm
      rw [← t]
    · rw [a1, a4]
      have t := Spin.taken_eq (F := Ideal) (m ((SparseCore.T c).loc Cert.KernelIdeal.main_arg4)) (m ((SparseCore.T c).loc Cert.KernelIdeal.main_arg1)) (hok c)
      refine Eq.trans ?_ (Spin.words_all (F := Ideal)
        (m ((SparseCore.T c).loc Cert.KernelIdeal.main_arg1)) (m ((SparseCore.T c).loc Cert.KernelIdeal.main_arg4))).symm
      rw [← t]

theorem claim : Cert.Claim :=
  ⟨Cert.Kernel.Gen.facts, Cert.KernelIdeal.Gen.facts, Cert.ReferenceIdeal.Gen.facts, Cert.Pre_types_in_range.Gen.facts,
    Spin.frame_kernel, Spin.frame_ideal, Spin.frame_reference, Spin.frame_reference_pre, trivial, same_results⟩

end Cert.Proof

end
